-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing_inputs [hPre_finite_routing_inputs : Cert.Pre_finite_routing_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing_inputs [hPre_finite_routing_inputs : Cert.Pre_finite_routing_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_routing_inputs [hKernelIdeal : Cert.KernelIdeal.Facts] [hPre_finite_routing_inputs : Cert.Pre_finite_routing_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_routing_inputs [hReferenceIdeal : Cert.ReferenceIdeal.Facts] [hPre_finite_routing_inputs : Cert.Pre_finite_routing_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_routing_inputs [hKernelIdeal : Cert.KernelIdeal.Facts] [hReferenceIdeal : Cert.ReferenceIdeal.Facts] [hPre_finite_routing_inputs : Cert.Pre_finite_routing_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_routing_inputs : Cert.Pre_finite_routing_inputs.Facts),
    quiescent_Kernel (hKernel := hKernel)
    ∧ quiescent_KernelIdeal (hKernelIdeal := hKernelIdeal)
    ∧ quiescent_KernelIdeal_pre_finite_routing_inputs (hKernelIdeal := hKernelIdeal) (hPre_finite_routing_inputs := hPre_finite_routing_inputs)
    ∧ quiescent_ReferenceIdeal (hReferenceIdeal := hReferenceIdeal)
    ∧ quiescent_ReferenceIdeal_pre_finite_routing_inputs (hReferenceIdeal := hReferenceIdeal) (hPre_finite_routing_inputs := hPre_finite_routing_inputs)
    ∧ preserves_Kernel_KernelIdeal
    ∧ algebraic_KernelIdeal_ReferenceIdeal_pre_finite_routing_inputs (hKernelIdeal := hKernelIdeal) (hReferenceIdeal := hReferenceIdeal) (hPre_finite_routing_inputs := hPre_finite_routing_inputs)
-- ==== Pre_finite_routing_inputs.lean ====
abbrev S2x2048x1024 : Shape := ⟨3, ![2, 2048, 1024]⟩
abbrev S8 : Shape := ⟨1, ![8]⟩
abbrev S8x1024 : Shape := ⟨2, ![8, 1024]⟩
abbrev S8x1024x1024 : Shape := ⟨3, ![8, 1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2x2048x1024 .f32) (main_arg1 : FVec F S8 .f32) (main_arg2 : IVec S8 32) (main_arg3 : FVec F S8x1024 .f32) (main_arg4 : FVec F S8x1024x1024 .f32) (main_arg5 : FVec F S8x1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  main_v13
-- ==== Kernel.lean ====
abbrev S2x2048x1024 : Shape := ⟨3, ![2, 2048, 1024]⟩
abbrev S8 : Shape := ⟨1, ![8]⟩
abbrev S8x1024 : Shape := ⟨2, ![8, 1024]⟩
abbrev S8x1024x1024 : Shape := ⟨3, ![8, 1024, 1024]⟩
abbrev S4096x1024 : Shape := ⟨2, ![4096, 1024]⟩
abbrev S8x1 : Shape := ⟨2, ![8, 1]⟩
abbrev S8192x1024 : Shape := ⟨2, ![8192, 1024]⟩
abbrev S4x1x8 : Shape := ⟨3, ![4, 1, 8]⟩
abbrev S1024x1024 : Shape := ⟨2, ![1024, 1024]⟩
abbrev S2x1024x1024 : Shape := ⟨3, ![2, 1024, 1024]⟩
abbrev S2048x1024 : Shape := ⟨2, ![2048, 1024]⟩
abbrev S1x1x8 : Shape := ⟨3, ![1, 1, 8]⟩
abbrev S1024x8 : Shape := ⟨2, ![1024, 8]⟩
abbrev S1024x2048 : Shape := ⟨2, ![1024, 2048]⟩
abbrev S1024 : Shape := ⟨1, ![1024]⟩
abbrev S1x1024 : Shape := ⟨2, ![1, 1024]⟩
abbrev S1x8x1024 : Shape := ⟨3, ![1, 8, 1024]⟩
abbrev S1 : Shape := ⟨1, ![1]⟩
abbrev S1x1x1 : Shape := ⟨3, ![1, 1, 1]⟩
abbrev S1x1024x1024 : Shape := ⟨3, ![1, 1024, 1024]⟩
abbrev S1024x1 : Shape := ⟨2, ![1024, 1]⟩
abbrev S_ : Shape := ⟨0, ![]⟩
abbrev S4x1x1 : Shape := ⟨3, ![4, 1, 1]⟩
abbrev S4 : Shape := ⟨1, ![4]⟩

abbrev nBuf : Space → Nat
  | .hbm => 62
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S8, .f32⟩
  | .hbm, ⟨2, _⟩ => ⟨S8, .i32⟩
  | .hbm, ⟨3, _⟩ => ⟨S8x1024, .f32⟩
  | .hbm, ⟨4, _⟩ => ⟨S8x1024x1024, .f32⟩
  | .hbm, ⟨5, _⟩ => ⟨S8x1024x1024, .f32⟩
  | .hbm, ⟨6, _⟩ => ⟨S4096x1024, .f32⟩
  | .hbm, ⟨7, _⟩ => ⟨S8x1, .f32⟩
  | .hbm, ⟨8, _⟩ => ⟨S8192x1024, .f32⟩
  | .hbm, ⟨9, _⟩ => ⟨S4096x1024, .f32⟩
  | .hbm, ⟨10, _⟩ => ⟨S4x1x8, .f32⟩
  | .hbm, ⟨11, _⟩ => ⟨S4x1x8, .f32⟩
  | .hbm, ⟨12, _⟩ => ⟨S4x1x8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4x1x1, .f32⟩
  | .hbm, ⟨52, _⟩ => ⟨S4, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1, .f32⟩
  | .local _ .vmem, ⟨4, _⟩ => ⟨S2x1024x1024, .f32⟩
  | .local _ .vmem, ⟨5, _⟩ => ⟨S2x1024x1024, .f32⟩
  | .local _ .vmem, ⟨6, _⟩ => ⟨S2048x1024, .f32⟩
  | .local _ .vmem, ⟨7, _⟩ => ⟨S2048x1024, .f32⟩
  | .local _ .vmem, ⟨8, _⟩ => ⟨S1024x1024, .f32⟩
  | .local _ .vmem, ⟨9, _⟩ => ⟨S1024x1024, .f32⟩
  | .local _ .vmem, ⟨10, _⟩ => ⟨S1x1x8, .f32⟩
  | .local _ .vmem, ⟨11, _⟩ => ⟨S1x1x8, .f32⟩
  | .local _ .vmem, ⟨12, _⟩ => ⟨S1x1x8, .f32⟩
  | .local _ .vmem, ⟨13, _⟩ => ⟨S1x1x8, .f32⟩
  | .local _ .vmem, ⟨14, _⟩ => ⟨S1x1x8, .f32⟩
  | .local _ .vmem, ⟨15, _⟩ => ⟨S1x1x8, .f32⟩
  | .local _ .vmem, ⟨16, _⟩ => ⟨S1024x1024, .bf16⟩
  | .local _ .vmem, ⟨17, _⟩ => ⟨S1024x8, .f32⟩
  | .local _ .vmem, ⟨18, _⟩ => ⟨S1024x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_cst_3 : Ref sig .tc := ⟨.hbm, 44, rfl⟩
abbrev main_call0_v11 : Ref sig .tc := ⟨.hbm, 45, rfl⟩
abbrev main_call0_cst_4 : Ref sig .tc := ⟨.hbm, 46, rfl⟩
abbrev main_call0_call0_v0 : Ref sig .tc := ⟨.hbm, 47, rfl⟩
abbrev main_v13 : Ref sig .tc := ⟨.hbm, 48, rfl⟩
abbrev main_cst_5 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_6 : Ref sig .tc := ⟨.hbm, 53, rfl⟩
abbrev main_v17 : Ref sig .tc := ⟨.hbm, 54, rfl⟩
abbrev main_cst_7 : Ref sig .tc := ⟨.hbm, 55, rfl⟩
abbrev main_v18 : Ref sig .tc := ⟨.hbm, 56, rfl⟩
abbrev main_cst_8 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c0_i32_28 : BitVec 32 := 0#32
  let v57 : BitVec 1 := Scalar.cmpi .eq arg1 c0_i32_28
  let v58 : BitVec 32 := Scalar.extui v57
  let c0_i32_29 : BitVec 32 := 0#32
  let v59 : BitVec 1 := Scalar.cmpi .ne v58 c0_i32_29
  v59

def k0_cond3 (i : grid0.Coords) : BitVec 1 :=
  let arg1 : BitVec 32 := BitVec.ofNat 32 (i 1).val
  let c0_i32_30 : BitVec 32 := 0#32
  let v60 : BitVec 1 := Scalar.cmpi .sgt arg1 c0_i32_30
  let v61 : BitVec 32 := Scalar.extui v60
  let c0_i32_31 : BitVec 32 := 0#32
  let v62 : BitVec 1 := Scalar.cmpi .ne v61 c0_i32_31
  v62

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x2048x1024 : Shape := ⟨3, ![2, 2048, 1024]⟩
abbrev S8 : Shape := ⟨1, ![8]⟩
abbrev S8x1024 : Shape := ⟨2, ![8, 1024]⟩
abbrev S8x1024x1024 : Shape := ⟨3, ![8, 1024, 1024]⟩
abbrev S2x2048x8 : Shape := ⟨3, ![2, 2048, 8]⟩
abbrev S1x1x8 : Shape := ⟨3, ![1, 1, 8]⟩
abbrev S_ : Shape := ⟨0, ![]⟩
abbrev S2x2048 : Shape := ⟨2, ![2, 2048]⟩
abbrev S2x2048x1 : Shape := ⟨3, ![2, 2048, 1]⟩
abbrev S2x2048x2 : Shape := ⟨3, ![2, 2048, 2]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S1 : Shape := ⟨1, ![1]⟩
abbrev S2x2048x8x1024 : Shape := ⟨4, ![2, 2048, 8, 1024]⟩
abbrev S8x1024x2x2048 : Shape := ⟨4, ![8, 1024, 2, 2048]⟩

abbrev nBuf : Space → Nat
  | .hbm => 105
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S8, .f32⟩
  | .hbm, ⟨2, _⟩ => ⟨S8, .i32⟩
  | .hbm, ⟨3, _⟩ => ⟨S8x1024, .f32⟩
  | .hbm, ⟨4, _⟩ => ⟨S8x1024x1024, .f32⟩
  | .hbm, ⟨5, _⟩ => ⟨S8x1024x1024, .f32⟩
  | .hbm, ⟨6, _⟩ => ⟨S2x2048x8, .f32⟩
  | .hbm, ⟨7, _⟩ => ⟨S1x1x8, .f32⟩
  | .hbm, ⟨8, _⟩ => ⟨S2x2048x8, .f32⟩
  | .hbm, ⟨9, _⟩ => ⟨S2x2048x8, .f32⟩
  | .hbm, ⟨10, _⟩ => ⟨S_, .f32⟩
  | .hbm, ⟨11, _⟩ => ⟨S2x2048, .f32⟩
  | .hbm, ⟨12, _⟩ => ⟨S_, .f32⟩
  | .hbm, ⟨13, _⟩ => ⟨S2x2048, .f32⟩
  | .hbm, ⟨14, _⟩ => ⟨S2x2048, .f32⟩
  | .hbm, ⟨15, _⟩ => ⟨S2x2048x1, .f32⟩
  | .hbm, ⟨16, _⟩ => ⟨S2x2048x8, .f32⟩
  | .hbm, ⟨17, _⟩ => ⟨S2x2048x8, .f32⟩
  | .hbm, ⟨18, _⟩ => ⟨S2x2048x8, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S2x2048x8, .f32⟩
  | .hbm, ⟨23, _⟩ => ⟨S2x2048x8, .f32⟩
  | .hbm, ⟨24, _⟩ => ⟨S2x2048x2, .f32⟩
  | .hbm, ⟨25, _⟩ => ⟨S2x2048x2, .i32⟩
  | .hbm, ⟨26, _⟩ => ⟨S_, .f32⟩
  | .hbm, ⟨27, _⟩ => ⟨S2x2048, .f32⟩
  | .hbm, ⟨28, _⟩ => ⟨S_, .f32⟩
  | .hbm, ⟨29, _⟩ => ⟨S2x2048, .f32⟩
  | .hbm, ⟨30, _⟩ => ⟨S2x2048, .f32⟩
  | .hbm, ⟨31, _⟩ => ⟨S2x2048x1, .f32⟩
  | .hbm, ⟨32, _⟩ => ⟨S2x2048x2, .f32⟩
  | .hbm, ⟨33, _⟩ => ⟨S2x2048x2, .f32⟩
  | .hbm, ⟨34, _⟩ => ⟨S2x2048x2, .f32⟩
  | .hbm, ⟨35, _⟩ => ⟨S_, .f32⟩
  | .hbm, ⟨36, _⟩ => ⟨S2x2048, .f32⟩
  | .hbm, ⟨37, _⟩ => ⟨S2x2048x1, .f32⟩
  | .hbm, ⟨38, _⟩ => ⟨S2x2048x2, .f32⟩
  | .hbm, ⟨39, _⟩ => ⟨S2x2048x2, .f32⟩
  | .hbm, ⟨40, _⟩ => ⟨S2x2048x2x1, .i32⟩
  | .hbm, ⟨41, _⟩ => ⟨S1x1x1x8, .i32⟩
  | .hbm, ⟨42, _⟩ => ⟨S2x2048x2x8, .i32⟩
  | .hbm, ⟨43, _⟩ => ⟨S2x2048x2x8, .i32⟩
  | .hbm, ⟨44, _⟩ => ⟨S2x2048x2x8, .i1⟩
  | .hbm, ⟨45, _⟩ => ⟨S2x2048x2x8, .f32⟩
  | .hbm, ⟨46, _⟩ => ⟨S2x2048x2x1, .f32⟩
  | .hbm, ⟨47, _⟩ => ⟨S2x2048x2x8, .f32⟩
  | .hbm, ⟨48, _⟩ => ⟨S2x2048x2x8, .f32⟩
  | .hbm, ⟨49, _⟩ => ⟨S_, .f32⟩
  | .hbm, ⟨50, _⟩ => ⟨S2x2048x8, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S1, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S2x2048x8, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S2x2048x8x1024, .f32⟩
  | .hbm, ⟨99, _⟩ => ⟨S_, .f32⟩
  | .hbm, ⟨100, _⟩ => ⟨S2x2048x8x1024, .f32⟩
  | .hbm, ⟨101, _⟩ => ⟨S2x2048x8x1024, .f32⟩
  | .hbm, ⟨102, _⟩ => ⟨S8x1024x2x2048, .f32⟩
  | .hbm, ⟨103, _⟩ => ⟨S2x2048x8x1024, .f32⟩
  | .hbm, ⟨104, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_c : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_cst_3 : Ref sig .tc := ⟨.hbm, 82, rfl⟩
abbrev main_call1_v11 : Ref sig .tc := ⟨.hbm, 83, rfl⟩
abbrev main_call1_cst_4 : Ref sig .tc := ⟨.hbm, 84, rfl⟩
abbrev main_call1_call0_v0 : Ref sig .tc := ⟨.hbm, 85, rfl⟩
abbrev main_v40 : Ref sig .tc := ⟨.hbm, 86, rfl⟩
abbrev main_cst_12 : Ref sig .tc := ⟨.hbm, 87, rfl⟩
abbrev main_v41 : Ref sig .tc := ⟨.hbm, 88, rfl⟩
abbrev main_v42 : Ref sig .tc := ⟨.hbm, 89, rfl⟩
abbrev main_cst_13 : Ref sig .tc := ⟨.hbm, 90, rfl⟩
abbrev main_v43 : Ref sig .tc := ⟨.hbm, 91, rfl⟩
abbrev main_cst_14 : Ref sig .tc := ⟨.hbm, 92, rfl⟩
abbrev main_v44 : Ref sig .tc := ⟨.hbm, 93, rfl⟩
abbrev main_cst_15 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_call2_cst : Ref sig .tc := ⟨.hbm, 99, rfl⟩
abbrev main_call2_v0 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩

abbrev nD : Nat := 1
abbrev τ : Topo := Topo.v7x

variable {F : FTy → Type} [FloatOps F]
-- ==== Proof.Moe.Core.lean ====
/- What the runs of the kernel's body share: the conditions of its branches in closed form over the grid's points, and
   the names of its staging buffers and its scratch buffers. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdx
public import Idealize.ShloMosaic.Lib.Pipeline.ValueKit

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — decided over the grid. -/
theorem hcond0_2 : ∀ t : Fin cfg0.N, cond0_2 (grid0.coords t) ↔ 1 ≤ t.val % 4 :=
  (by decide +kernel : ∀ t : Fin grid0.N, cond0_2 (grid0.coords t) ↔ 1 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x8 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x1024 .bf16 := Memref.whole cc0_scratch0
abbrev scM0_1 : Memref sig .tc .vmem S1024x8 .f32 := Memref.whole cc0_scratch1
abbrev scM0_2 : Memref sig .tc .vmem S1024x2048 .bf16 := Memref.whole cc0_scratch2
/-- The scratch `arg11` the kernel carries between points, as a view: what it holds is stated through it. -/
abbrev VS0_0 : View sig .tc .vmem S1024x1024 .bf16 := scM0_0.view
/-- The scratch `arg12` the kernel carries between points, as a view: what it holds is stated through it. -/
abbrev VS0_1 : View sig .tc .vmem S1024x8 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Two 1024 by 1024 blocks side by side. -/
def glue (a b : Vec F S1024x1024 .bf16) : Vec F S1024x2048 .bf16 :=
  fun j => if h : (j 1).val < 1024 then a (ValueIdx.ix2 (j 0) ⟨(j 1).val, h⟩)
    else b (ValueIdx.ix2 (j 0) ⟨(j 1).val - 1024, by have := ValueIdx.idx2_lt1 j; omega⟩)

/-- A buffer stored in two halves, read whole, is the two halves side by side. -/
theorem readCov_glue (v : View sig .tc .vmem S1024x2048 .bf16) (a b : Vec F S1024x1024 .bf16) :
    v.readCov (Val := Elt F) [⟨Rect.unit (s := S1024x2048) ![0, 1024] S1024x1024.size inb_S1024x2048_S1024x1024_0_1024, b⟩,
        ⟨Rect.unit (s := S1024x2048) ![0, 0] S1024x1024.size inb_S1024x2048_S1024x1024_0_0, a⟩]
      (Rect.unit (s := S1024x2048) ![0, 0] S1024x2048.size inb_S1024x2048_S1024x2048_0_0).toLoadRect = glue a b := by
  rw [View.readCov_eq_canon_ld v _ _ (fun y => ?_), View.ld_unit_zero (by decide)]
  · funext y
    unfold glue
    canon_tiles x h
    · have hy : ¬ (y 1).val < 1024 := by omega
      rw [dif_neg hy]
      refine congrArg b (Shape.idx_ext₂ ?_ ?_)
      · show (x 0).val = (y 0).val; omega
      · show (x 1).val = (y 1).val - 1024; omega
    · have hy : (y 1).val < 1024 := by omega
      rw [dif_pos hy]
      refine congrArg a (Shape.idx_ext₂ ?_ ?_)
      · show (x 0).val = (y 0).val; omega
      · show (x 1).val = (y 1).val; omega
  · exact View.cover_of_tiledL (s := S1024x2048) _ S1024x1024.size (by rfl) y

/-- A load of the whole of a whole buffer reads its contents. -/
theorem load_whole {S : Shape} {e : EltTy} {m : Memref sig .tc .vmem S e} (h : m.IsWhole) (X : S.Idx → Elt F e)
    {off : Fin S.rank → ℕ} (ho : off = fun _ => 0) (inb : ∀ a, off a + S.size a ≤ S.size a) :
    m.view.readAt (Elt F) (Rect.unit off S.size inb).toLoadRect (h.unread X) = X := by
  rw [View.readAt_eq_ld, h.read_unread, View.ld_unit_zero ho]

/-- One store over the whole of a buffer leaves its payload. -/
theorem store_whole {S : Shape} {e : EltTy} (v : View sig .tc .vmem S e) (f : v.ty.Contents (Elt F)) (w : S.Idx → Elt F e)
    {off : Fin S.rank → ℕ} (ho : off = fun _ => 0) (inb : ∀ a, off a + S.size a ≤ S.size a) :
    v.read (Elt F) (v.writes (Elt F) f [⟨Rect.unit off S.size inb, w⟩]) = w := by
  rw [View.read_writes_eq_canon _ _ _ (fun y => ⟨_, List.mem_singleton_self _, View.mem_set_unit_zero ho inb y⟩),
      View.canon_unit_zero ho]

/-- The zero offsets of a rank two and of a rank three rectangle. -/
theorem off2 : (![0, 0] : Fin 2 → ℕ) = fun _ => 0 := by decide
theorem off3 : (![0, 0, 0] : Fin 3 → ℕ) = fun _ => 0 := by decide

/-- A token block's hidden activations of the pair's two experts, scaled by their combine weights, side by side: the
    two halves of the kernel's third scratch buffer as it is read. -/
def hid (i : grid0.Coords) (xb : Vec F S1024x1024 .bf16) (w1 : Vec F S2x1024x1024 .f32) (cb : Vec F S1024x8 .f32) : Vec F S1024x2048 .bf16 :=
  glue (k0_pay20 i xb (View.ld w1 (Rect.unit (s := S2x1024x1024) ![0, 0, 0] S1x1024x1024.size inb_S2x1024x1024_S1x1024x1024_0_0_0)) cb)
    (k0_pay1 (iota .tc S1024x8 32 [1] iota_S1024x8_d1_w32) (Scalar.addi (Scalar.muli (BitVec.ofNat 32 (i 1).val) 2#32) 1#32) xb
      (k0_pay21 (View.ld w1 (Rect.unit (s := S2x1024x1024) ![1, 0, 0] S1x1024x1024.size inb_S2x1024x1024_S1x1024x1024_1_0_0))) cb)

/-- A load of the whole of a buffer that one store has wholly covered reads that store's payload. -/
theorem readCov_whole {S : Shape} {e : EltTy} (v : View sig .tc .vmem S e) (w : S.Idx → Elt F e)
    {off : Fin S.rank → ℕ} (ho : off = fun _ => 0) (inb : ∀ a, off a + S.size a ≤ S.size a) :
    v.readCov (Val := Elt F) [⟨Rect.unit off S.size inb, w⟩] (Rect.unit off S.size inb).toLoadRect = w := by
  rw [View.readCov_eq_canon_ld v _ _ (fun y => ⟨_, List.mem_singleton_self _, View.mem_set_unit_zero ho inb y⟩),
    View.ld_unit_zero ho, View.canon_unit_zero ho]

/-- The row number of each entry of the table of eight experts by 1024 tokens. -/
abbrev rows8 : IVec S8x1024 32 := iota .tc S8x1024 32 [0] iota_S8x1024_d0_w32

/-- The combine weights of a token block, one row per token, from its tokens, the keys and the biases. -/
def cmbOf (x : Vec F S1024x1024 .f32) (k : Vec F S8x1024 .f32) (b : Vec F S8x1 .f32) : Vec F S1024x8 .f32 :=
  k0_pay16 rows8 (k0_pay9 x k b) (k0_pay12 x k b) (k0_pay13 x k b)

/-- The block's sums of the routing probabilities, one per expert. -/
def psumOf (x : Vec F S1024x1024 .f32) (k : Vec F S8x1024 .f32) (b : Vec F S8x1 .f32) : Vec F S1x1x8 .f32 :=
  k0_pay17 (k0_pay8 x k b)

/-- The block's counts of the tokens routed to each expert. -/
def cntOf (x : Vec F S1024x1024 .f32) (k : Vec F S8x1024 .f32) (b : Vec F S8x1 .f32) : Vec F S1x1x8 .f32 :=
  k0_pay18 rows8 (k0_pay9 x k b) (k0_pay12 x k b)

/-- The block's sum of the squared logits, written at every expert's place. -/
def sqOf (x : Vec F S1024x1024 .f32) (k : Vec F S8x1024 .f32) (b : Vec F S8x1 .f32) : Vec F S1x1x8 .f32 :=
  k0_pay19 (k0_pay6 x k b)

end Cert.KernelIdeal.Moe

end
-- ==== Proof.Moe.RunA.lean ====
/- The run of the kernel's body at the first point of a token block: it routes the block's tokens, keeps the block and
   its combine weights in scratch, and starts the output block with this pair of experts' product. -/
module

public import proofs.«01_k».proof.Proof.Moe.Core

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run_A (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : cond0_0 i) (hc1 : cond0_1 i) (hc2 : ¬cond0_2 i)
    (x0 : Vec F S1024x1024 .f32) (x1 : Vec F S8x1024 .f32) (x2 : Vec F S8x1 .f32) (x3 : Vec F S2x1024x1024 .f32) (x4 : Vec F S2048x1024 .f32) (x5 : Vec F S1024x1024 .f32) (x6 x7 x8 : Vec F S1x1x8 .f32) (xb : Vec F S1024x1024 .bf16) (cb : Vec F S1024x8 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xb ∗ owns (c : Thread nD τ) arg12 fullShare cb ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (hid i (k0_pay5 x0) x3 (cmbOf x0 x1 x2)) x4) ∗ owns (c : Thread nD τ) arg8 fullShare (psumOf x0 x1 x2) ∗ owns (c : Thread nD τ) arg9 fullShare (cntOf x0 x1 x2) ∗ owns (c : Thread nD τ) arg10 fullShare (sqOf x0 x1 x2) ∗ owns (c : Thread nD τ) arg11 fullShare (k0_pay5 x0) ∗ owns (c : Thread nD τ) arg12 fullShare (cmbOf x0 x1 x2) ∗ (∃ d, owns (c : Thread nD τ) arg13 fullShare d)) -∗ K ⟨⟩))
      ⊢ wp frame (wpE (defs₀ (F := F)) Variants.none c none) E (cc0__moe_kernel i arg2 harg2 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hf8
  obtain rfl := harg11.eq_unread hfs0; obtain rfl := harg12.eq_unread hfs1
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr; swap; · iexact H5
    ipureintro
    refine (store_whole _ _ _ off2 _).trans ?_
    sl_unfold_words
    rw [load_whole harg6 x4 off2]
    refine congrArg (fun z => k0_pay2 z x4) ((readCov_glue _ _ _).trans ?_)
    rw [readCov_whole _ _ off2, readCov_whole _ _ off2, load_whole harg2 x0 off2, load_whole harg3 x1 off2,
      load_whole harg4 x2 off2, View.readAt_eq_ld, View.readAt_eq_ld, harg5.read_unread]
    rfl
  isplitl [H6]
  · iexists _; isplitr; swap; · iexact H6
    ipureintro
    refine (store_whole _ _ _ off3 _).trans ?_
    sl_unfold_words
    rw [load_whole harg2 x0 off2, load_whole harg3 x1 off2, load_whole harg4 x2 off2]
    rfl
  isplitl [H7]
  · iexists _; isplitr; swap; · iexact H7
    ipureintro
    refine (store_whole _ _ _ off3 _).trans ?_
    sl_unfold_words
    rw [load_whole harg2 x0 off2, load_whole harg3 x1 off2, load_whole harg4 x2 off2]
    rfl
  isplitl [H8]
  · iexists _; isplitr; swap; · iexact H8
    ipureintro
    refine (store_whole _ _ _ off3 _).trans ?_
    sl_unfold_words
    rw [load_whole harg2 x0 off2, load_whole harg3 x1 off2, load_whole harg4 x2 off2]
    rfl
  isplitl [HS0]
  · iexists _; isplitr; swap; · iexact HS0
    ipureintro
    refine (store_whole _ _ _ off2 _).trans ?_
    sl_unfold_words
    rw [load_whole harg2 x0 off2]
  isplitl [HS1]
  · iexists _; isplitr; swap; · iexact HS1
    ipureintro
    refine (store_whole _ _ _ off2 _).trans ?_
    sl_unfold_words
    rw [load_whole harg2 x0 off2, load_whole harg3 x1 off2, load_whole harg4 x2 off2]
    rfl
  iexists _, _; isplitr; swap; · iexact HS2
  ipureintro; rfl

end Cert.KernelIdeal.Moe

end
-- ==== Proof.Moe.RunB.lean ====
/- The run of the kernel's body at a point that is not the first of its token block: it adds this pair of experts'
   product to the output block and leaves the token block's scratch as it was. -/
module

public import proofs.«01_k».proof.Proof.Moe.Core

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run_B (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : ¬cond0_0 i) (hc1 : ¬cond0_1 i) (hc2 : cond0_2 i)
    (x0 : Vec F S1024x1024 .f32) (x1 : Vec F S8x1024 .f32) (x2 : Vec F S8x1 .f32) (x3 : Vec F S2x1024x1024 .f32) (x4 : Vec F S2048x1024 .f32) (x5 : Vec F S1024x1024 .f32) (x6 x7 x8 : Vec F S1x1x8 .f32) (xb : Vec F S1024x1024 .bf16) (cb : Vec F S1024x8 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xb ∗ owns (c : Thread nD τ) arg12 fullShare cb ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (hid i xb x3 cb) x4 x5) ∗ owns (c : Thread nD τ) arg8 fullShare x6 ∗ owns (c : Thread nD τ) arg9 fullShare x7 ∗ owns (c : Thread nD τ) arg10 fullShare x8 ∗ owns (c : Thread nD τ) arg11 fullShare xb ∗ owns (c : Thread nD τ) arg12 fullShare cb ∗ (∃ d, owns (c : Thread nD τ) arg13 fullShare d)) -∗ K ⟨⟩))
      ⊢ wp frame (wpE (defs₀ (F := F)) Variants.none c none) E (cc0__moe_kernel i arg2 harg2 arg3 harg3 arg4 harg4 arg5 harg5 arg6 harg6 arg7 harg7 arg8 harg8 arg9 harg9 arg10 harg10 arg11 harg11 arg12 harg12 arg13 harg13) K := by
  simp only [cc0__moe_kernel_eq_skeleton]; unfold cc0__moe_kernel_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg8.eq_unread hf6; obtain rfl := harg9.eq_unread hf7; obtain rfl := harg10.eq_unread hf8
  obtain rfl := harg11.eq_unread hfs0; obtain rfl := harg12.eq_unread hfs1
  sl_exec (disch := first | sl_exact hc0 | sl_exact hc1 | sl_exact hc2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]
  · iexists _; isplitr; swap; · iexact H5
    ipureintro
    refine (store_whole _ _ _ off2 _).trans ?_
    sl_unfold_words
    rw [load_whole harg6 x4 off2, load_whole harg7 x5 off2]
    refine congrArg (fun z => k0_pay3 z x4 x5) ((readCov_glue _ _ _).trans ?_)
    rw [load_whole harg11 xb off2, load_whole harg12 cb off2, View.readAt_eq_ld, View.readAt_eq_ld, harg5.read_unread]
    rfl
  isplitl [H6]; · iexists _; isplitr; · ipureintro; exact harg8.read_unread _
                  iexact H6
  isplitl [H7]; · iexists _; isplitr; · ipureintro; exact harg9.read_unread _
                  iexact H7
  isplitl [H8]; · iexists _; isplitr; · ipureintro; exact harg10.read_unread _
                  iexact H8
  isplitl [HS0]; · iexists _; isplitr; · ipureintro; exact harg11.read_unread _
                   iexact HS0
  isplitl [HS1]; · iexists _; isplitr; · ipureintro; exact harg12.read_unread _
                   iexact HS1
  iexists _, _; isplitr; swap; · iexact HS2
  ipureintro; rfl

end Cert.KernelIdeal.Moe

end
-- ==== Proof.Moe.Frame.lean ====
/- The launch of the kernel with what every buffer holds named: the token block's scratch and combine weights through the
   block's four points, the output block as the products are added to it, and the three statistics the block writes. -/
module

public import proofs.«01_k».proof.Proof.Moe.RunA
public import proofs.«01_k».proof.Proof.Moe.RunB
public import proofs.«01_k».proof.Proof.Gen.KernelIdeal.Frame

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point of point `n`'s token block. -/
def sp (n : ℕ) (h : n < cfg0.N) : Fin cfg0.N := ⟨n - n % 4, by omega⟩

/-- The token block's tokens, as the kernel keeps them. -/
def xbAt (c : Dev nD) (n : ℕ) (h : n < cfg0.N) : Vec F S1024x1024 .bf16 := k0_pay5 (iblk m c 0 (sp n h))

/-- The token block's combine weights. -/
def cbAt (c : Dev nD) (n : ℕ) (h : n < cfg0.N) : Vec F S1024x8 .f32 :=
  cmbOf (iblk m c 0 (sp n h)) (iblk m c 1 (sp n h)) (iblk m c 2 (sp n h))

/-- Both experts' weighted hidden activations at point `n`, side by side. -/
def hidAt (c : Dev nD) (n : ℕ) (h : n < cfg0.N) : Vec F S1024x2048 .bf16 :=
  hid (grid0.coords ⟨n, h⟩) (xbAt m c n h) (iblk m c 3 ⟨n, h⟩) (cbAt m c n h)

/-- The output block after point `n`: the products of the token block's pairs of experts so far, added in order. -/
def outAt (c : Dev nD) : (n : ℕ) → n < cfg0.N → Vec F S1024x1024 .f32
  | 0, h => k0_pay2 (hidAt m c 0 h) (iblk m c 4 ⟨0, h⟩)
  | n + 1, h =>
    if (n + 1) % 4 = 0 then k0_pay2 (hidAt m c (n + 1) h) (iblk m c 4 ⟨n + 1, h⟩)
    else k0_pay3 (hidAt m c (n + 1) h) (iblk m c 4 ⟨n + 1, h⟩) (outAt c n (Nat.lt_of_succ_lt h))

/-- At a token block's first point the output block is this point's product. -/
theorem outAt_first (c : Dev nD) (n : ℕ) (h : n < cfg0.N) (h0 : n % 4 = 0) :
    outAt m c n h = k0_pay2 (hidAt m c n h) (iblk m c 4 ⟨n, h⟩) := by
  cases n with
  | zero => rfl
  | succ n => exact if_pos h0

/-- At any other point this point's product is added to it. -/
theorem outAt_next (c : Dev nD) (n : ℕ) (h : n < cfg0.N) (h0 : ¬n % 4 = 0) :
    outAt m c n h = k0_pay3 (hidAt m c n h) (iblk m c 4 ⟨n, h⟩) (outAt m c (n - 1) (by omega)) := by
  cases n with
  | zero => exact absurd rfl h0
  | succ n => exact if_neg h0

theorem sp_first (n : ℕ) (h : n < cfg0.N) (h0 : n % 4 = 0) : sp n h = ⟨n, h⟩ := Fin.ext (by show n - n % 4 = n; omega)

theorem sp_pred (n : ℕ) (h : n < cfg0.N) (h0 : ¬n % 4 = 0) : sp (n - 1) (by omega) = sp n h :=
  Fin.ext (by show n - 1 - (n - 1) % 4 = n - n % 4; omega)

/-- The invariant before point `n`: before the first, every scratch at anything; afterwards the tokens and the combine
    weights of the token block of the point before. -/
def PhiS (c : Dev nD) : (n : ℕ) → n ≤ cfg0.N → sProp 𝕄
  | 0, _ => Pipeline.ΦA spec0 c
  | n + 1, hn => iprop(iprop(owns (c : Thread nD τ) scM0_0 fullShare (xbAt m c n hn) ∗ owns (c : Thread nD τ) scM0_1 fullShare (cbAt m c n hn) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xbAt m c n hn) ∗ owns (c : Thread nD τ) scM0_1 fullShare (cbAt m c n hn) ∗ (∃ d, owns (c : Thread nD τ) scM0_2 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (xbAt m c (n - 1) (by omega)) ∗ owns (c : Thread nD τ) scM0_1 fullShare (cbAt m c (n - 1) (by omega)) ∗ (∃ d, owns (c : Thread nD τ) scM0_2 fullShare d)) ∗ (∃ r, prngReg c r)) := by
  cases n with
  | zero => exact absurd rfl hz
  | succ n => rfl

/-! ## The pipeline's proof data -/

/-- The proof data: every input buffer at its block, the output block at `outAt`, the three statistics at the token
    block's, through the whole of the block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
    | ⟨6, _⟩ => psumOf (iblk m c 0 (sp t.val t.isLt)) (iblk m c 1 (sp t.val t.isLt)) (iblk m c 2 (sp t.val t.isLt))
    | ⟨7, _⟩ => cntOf (iblk m c 0 (sp t.val t.isLt)) (iblk m c 1 (sp t.val t.isLt)) (iblk m c 2 (sp t.val t.isLt))
    | ⟨8, _⟩ => sqOf (iblk m c 0 (sp t.val t.isLt)) (iblk m c 1 (sp t.val t.isLt)) (iblk m c 2 (sp t.val t.isLt))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t.val t.isLt := by dsimp only [dats]
theorem after0_6 (c : Dev nD) (t : Fin cfg0.N) : (dats m 0 c).after 6 t = psumOf (iblk m c 0 (sp t.val t.isLt)) (iblk m c 1 (sp t.val t.isLt)) (iblk m c 2 (sp t.val t.isLt)) := by dsimp only [dats]
theorem after0_7 (c : Dev nD) (t : Fin cfg0.N) : (dats m 0 c).after 7 t = cntOf (iblk m c 0 (sp t.val t.isLt)) (iblk m c 1 (sp t.val t.isLt)) (iblk m c 2 (sp t.val t.isLt)) := by dsimp only [dats]
theorem after0_8 (c : Dev nD) (t : Fin cfg0.N) : (dats m 0 c).after 8 t = sqOf (iblk m c 0 (sp t.val t.isLt)) (iblk m c 1 (sp t.val t.isLt)) (iblk m c 2 (sp t.val t.isLt)) := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the outputs are idle -/

theorem live5 : ∀ t : Fin cfg0.N, cfg0.idle 5 (grid0.coords t) = false :=
  (by decide +kernel : ∀ t : Fin grid0.N, idle0 5 (grid0.coords t) = false)
theorem live6 : ∀ t : Fin cfg0.N, t.val % 4 = 0 → cfg0.idle 6 (grid0.coords t) = false :=
  (by decide +kernel : ∀ t : Fin grid0.N, t.val % 4 = 0 → idle0 6 (grid0.coords t) = false)
theorem live7 : ∀ t : Fin cfg0.N, t.val % 4 = 0 → cfg0.idle 7 (grid0.coords t) = false := live6
theorem live8 : ∀ t : Fin cfg0.N, t.val % 4 = 0 → cfg0.idle 8 (grid0.coords t) = false := live6
theorem idle6 : ∀ t : Fin cfg0.N, ¬t.val % 4 = 0 → cfg0.idle 6 (grid0.coords t) = true :=
  (by decide +kernel : ∀ t : Fin grid0.N, ¬t.val % 4 = 0 → idle0 6 (grid0.coords t) = true)
theorem idle7 : ∀ t : Fin cfg0.N, ¬t.val % 4 = 0 → cfg0.idle 7 (grid0.coords t) = true := idle6
theorem idle8 : ∀ t : Fin cfg0.N, ¬t.val % 4 = 0 → cfg0.idle 8 (grid0.coords t) = true := idle6

/-- The point before. -/
abbrev prv (t : Fin cfg0.N) : Fin cfg0.N := ⟨t.val - 1, Nat.lt_of_le_of_lt (Nat.sub_le _ _) t.isLt⟩

/-- Past a token block's first point an output window the body did not store into holds what the point before left. -/
theorem before_keep (c : Dev nD) (w : Fin cfg0.W) (hout : (cfg0.win w).isOut = true)
    (hclip : ∀ (i : cfg0.grid.Coords) a, (cfg0.win w).clip i a = none)
    (hflush : ∀ t : Fin cfg0.N, (cfg0.win w).flush t = true ↔ t.val % 4 = 3)
    (t : Fin cfg0.N) (ht : ¬t.val % 4 = 0) (d)
    (hl : cfg0.idle w (grid0.coords (prv t)) = false) :
    (dats m 0 c).before w t d = (dats m 0 c).after w (prv t) := by
  rw [(dats m 0 c).before_of_pos w t (fun h0 => ht (by rw [h0])) ((cfg0.win w).fetch_out hout t) d,
    if_neg (fun h => by have h3 := (hflush (prv t)).mp h; have h4 : (t.val - 1) % 4 = 3 := h3; omega)]
  unfold Dat.left
  rw [hl]
  dsimp only
  unfold Dat.kept
  rw [Pipeline.fill_of_clip_none w _ (hclip _) d ((dats m 0 c).after w _), Window.fill_cut]

/-- The same for a window idle past the block's first point, where the proof data name the same contents all along. -/
theorem before_carry (c : Dev nD) (w : Fin cfg0.W) (hout : (cfg0.win w).isOut = true)
    (hclip : ∀ (i : cfg0.grid.Coords) a, (cfg0.win w).clip i a = none)
    (hflush : ∀ t : Fin cfg0.N, (cfg0.win w).flush t = true ↔ t.val % 4 = 3)
    (hlive : ∀ t : Fin cfg0.N, t.val % 4 = 0 → cfg0.idle w (grid0.coords t) = false)
    (hidle : ∀ t : Fin cfg0.N, ¬t.val % 4 = 0 → cfg0.idle w (grid0.coords t) = true)
    (hcarry : ∀ t : Fin cfg0.N, ¬t.val % 4 = 0 → (dats m 0 c).after w t = (dats m 0 c).after w (prv t)) :
    ∀ (n : ℕ) (t : Fin cfg0.N), t.val = n → ¬t.val % 4 = 0 → ∀ d, (dats m 0 c).before w t d = (dats m 0 c).after w t := by
  intro n
  induction n with
  | zero => intro t hn ht; exact absurd (by rw [hn]) ht
  | succ n ih =>
    intro t hn ht d
    rw [hcarry t ht]
    by_cases h : (t.val - 1) % 4 = 0
    · exact before_keep m c w hout hclip hflush t ht d (hlive (prv t) h)
    · rw [(dats m 0 c).before_of_pos w t (fun h0 => ht (by rw [h0])) ((cfg0.win w).fetch_out hout t) d,
        if_neg (fun h => by have h3 := (hflush (prv t)).mp h; have h4 : (t.val - 1) % 4 = 3 := h3; omega)]
      unfold Dat.left
      rw [hidle (prv t) h]
      exact ih (prv t) (by show t.val - 1 = n; rw [hn]; rfl) h d

theorem before0_5 (c : Dev nD) (t : Fin cfg0.N) (ht : ¬t.val % 4 = 0) (d) :
    (dats m 0 c).before 5 t d = outAt m c (t.val - 1) (prv t).isLt :=
  (before_keep m c 5 rfl (fun _ _ => rfl) flush0_5 t ht d (live5 _)).trans (after0_5 m c _)
theorem before0_6 (c : Dev nD) (t : Fin cfg0.N) (ht : ¬t.val % 4 = 0) (d) :
    (dats m 0 c).before 6 t d = (dats m 0 c).after 6 t :=
  before_carry m c 6 rfl (fun _ _ => rfl) flush0_6 live6 idle6
    (fun t ht => by rw [after0_6, after0_6, sp_pred t.val t.isLt ht]) t.val t rfl ht d
theorem before0_7 (c : Dev nD) (t : Fin cfg0.N) (ht : ¬t.val % 4 = 0) (d) :
    (dats m 0 c).before 7 t d = (dats m 0 c).after 7 t :=
  before_carry m c 7 rfl (fun _ _ => rfl) flush0_7 live7 idle7
    (fun t ht => by rw [after0_7, after0_7, sp_pred t.val t.isLt ht]) t.val t rfl ht d
theorem before0_8 (c : Dev nD) (t : Fin cfg0.N) (ht : ¬t.val % 4 = 0) (d) :
    (dats m 0 c).before 8 t d = (dats m 0 c).after 8 t :=
  before_carry m c 8 rfl (fun _ _ => rfl) flush0_8 live8 idle8
    (fun t ht => by rw [after0_8, after0_8, sp_pred t.val t.isLt ht]) t.val t rfl ht d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A live window leaves exactly what the proof data name. -/
theorem leaves_live (c : Dev nD) (w : Fin cfg0.W) (t : Fin cfg0.N) (h : cfg0.idle w (grid0.coords t) = false)  :
    (dats m 0 c).leavesExact w t = owns (c : Thread nD τ) ((cfg0.win w).stage (cfg0.slots t w)) fullShare ((dats m 0 c).after w t) := by
  unfold Dat.leavesExact; rw [h]

/-- A window whose buffer holds what the proof data name leaves what it must, idle or not. -/
theorem leaves_of_after (c : Dev nD) (w : Fin cfg0.W) (t : Fin cfg0.N) (hb : ∀ d, (dats m 0 c).before w t d = (dats m 0 c).after w t)
    (d : (cfg0.win w).block.Idx → Elt F (cfg0.win w).elt) :
    owns (c : Thread nD τ) ((cfg0.win w).stage (cfg0.slots t w)) fullShare ((dats m 0 c).after w t) ⊢ ((dats m 0 c).leavesExact w t : sProp 𝕄) := by
  unfold Dat.leavesExact
  cases cfg0.idle w (grid0.coords t) <;> dsimp only
  · exact .rfl
  · cases (cfg0.win w).flush t <;> dsimp only
    · iintro H; iexists d; rw [hb]; iexact H
    · exact .rfl

set_option maxHeartbeats 4000000 in
/-- The body at the first point of a token block. -/
theorem sound_A (c : Dev nD) (t : Fin cfg0.N) (h0 : t.val % 4 = 0) (xb : Vec F S1024x1024 .bf16) (cb : Vec F S1024x8 .f32) :
    iprop(iprop(iprop(owns (c : Thread nD τ) scM0_0 fullShare xb ∗ owns (c : Thread nD τ) scM0_1 fullShare cb ∗ (∃ d, owns (c : Thread nD τ) scM0_2 fullShare d)) ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
      ⊢ wp frame (wpE (defs₀ (F := F)) Variants.none c none) Set.univ (bodyAt0 t) (fun _ => bodyPost m c t) := by
  unfold bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_live m c 0 t (liveAt0_0 t), leaves_live m c 1 t (liveAt0_1 t), leaves_live m c 2 t (liveAt0_2 t), leaves_live m c 3 t (liveAt0_3 t), leaves_live m c 4 t (liveAt0_4 t), leaves_live m c 5 t (live5 t), leaves_live m c 6 t (live6 t h0), leaves_live m c 7 t (live7 t h0), leaves_live m c 8 t (live8 t h0)]
  rw [after0_0, after0_1, after0_2, after0_3, after0_4, after0_5, after0_6, after0_7, after0_8]
  rw [outAt_first m c t.val t.isLt h0]
  unfold hidAt xbAt cbAt
  rw [sp_first t.val t.isLt h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ _ _ _ _ _ _ _ _ _ _ _ _ _ _ _ _ _ _ _ _ _ _ _ ((hcond0_0 t).mpr h0) ((hcond0_1 t).mpr h0) (fun h => by have := (hcond0_2 t).mp h; omega) (iblk m c 0 t) (iblk m c 1 t) (iblk m c 2 t) (iblk m c 3 t) (iblk m c 4 t) _ _ _ _ xb cb Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body at any other point. -/
theorem sound_B (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5 m c t h0, before0_6 m c t h0, before0_7 m c t h0, before0_8 m c t h0]
  rw [show (dats m 0 c).owesAt () t.succ = (dats m 0 c).owesAt () t.castSucc from rfl]
  rw [show (dats m 0 c).Φ t.succ = PhiS m c (t.val + 1) t.isLt from rfl, PhiS_succ]
  rw [PhiS_castSucc m c t, PhiS_pos m c _ _ (by omega)]
  rw [leaves_live m c 0 t (liveAt0_0 t), leaves_live m c 1 t (liveAt0_1 t), leaves_live m c 2 t (liveAt0_2 t), leaves_live m c 3 t (liveAt0_3 t), leaves_live m c 4 t (liveAt0_4 t), leaves_live m c 5 t (live5 t)]
  rw [after0_0, after0_1, after0_2, after0_3, after0_4, after0_5]
  rw [outAt_next m c t.val t.isLt h0]
  unfold hidAt xbAt cbAt
  rw [sp_pred t.val t.isLt h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_B c (grid0.coords t) _ _ _ _ _ _ _ _ _ _ _ _ _ _ _ _ _ _ _ _ _ _ _ _ (fun h => h0 ((hcond0_0 t).mp h)) (fun h => h0 ((hcond0_1 t).mp h)) ((hcond0_2 t).mpr (by omega)) (iblk m c 0 t) (iblk m c 1 t) (iblk m c 2 t) (iblk m c 3 t) (iblk m c 4 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_of_after m c 6 t (before0_6 m c t h0) d6); iexact H6
  isplitl [H7]; · iapply (leaves_of_after m c 7 t (before0_7 m c t h0) d7); iexact H7
  iapply (leaves_of_after m c 8 t (before0_8 m c t h0) d8); iexact H8

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · unfold bodyPre
    by_cases hz : t.val = 0
    · rw [PhiS_castSucc m c t, PhiS_zero m c _ _ hz, PhiA0_eq]
      iintro ⟨⟨⟨⟨%xb, HS0⟩, ⟨%cb, HS1⟩, HS2⟩, Hg⟩, Hr⟩
      iapply (sound_A m c t h0 xb cb)
      isplitl [HS0 HS1 HS2 Hg]
      · isplitl [HS0 HS1 HS2]
        · isplitl [HS0]; · iexact HS0
          isplitl [HS1]; · iexact HS1
          iexact HS2
        iexact Hg
      iexact Hr
    · rw [PhiS_castSucc m c t, PhiS_pos m c _ _ hz]
      exact sound_A m c t h0 _ _
  · exact sound_B m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

/-- What every buffer holds when the program ends, from what the pipeline's arrays end at. -/
abbrev W (c : Dev nD) (b : Ref sig .tc) : Buf (Elt F) ((c.tc : Thread nD τ).loc b) :=
  Pipeline.afterTail₀ cfgs (dats m) 0 (V0 m) [hostOps1, hostOps1_1, hostOps1_2] c b

set_option backward.isDefEq.respectTransparency.types false in
set_option maxHeartbeats 800000 in
/-- The whole program's run: it ends, with every array and every host buffer at the contents named, and the counters at
    zero. -/
theorem run_main : θ_run defs (onTc (τ := τ) (main (F := F))) (s₀ m ρ) (fun r =>
    Pipeline.FramePost cfgs (dats m) 0 (Pipeline.afterTail₀ cfgs (dats m) 0 (V0 m) [hostOps1, hostOps1_1, hostOps1_2]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The frame: the program ends, its arguments unchanged, its counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Moe

end
-- ==== Proof.Moe.KRuns.lean ====
/- The printed kernel's frame, the common part: what the host lines after the launch write, the body's conditions over the grid, its memory references. -/
module

public import proofs.«01_k».proof.Proof.Gen.Kernel.Frame
public import proofs.«01_k».proof.Proof.Gen.Kernel.Skeleton
public import proofs.«01_k».proof.Proof.Gen.Kernel
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Moe

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_c, main_call0_call0_v0, main_call0_cst, main_call0_cst_0, main_call0_cst_1, main_call0_cst_2, main_call0_cst_3, main_call0_cst_4, main_call0_v0, main_call0_v1, main_call0_v10, main_call0_v11, main_call0_v2, main_call0_v3, main_call0_v4, main_call0_v5, main_call0_v6, main_call0_v7, main_call0_v8, main_call0_v9, main_cst, main_cst_0, main_cst_1, main_cst_2, main_cst_3, main_cst_4, main_cst_5, main_cst_6, main_cst_7, main_cst_8, main_v10, main_v11, main_v12, main_v13, main_v14, main_v15, main_v16, main_v17, main_v18, main_v19, main_v20, main_v21, main_v22, main_v4, main_v5, main_v6, main_v7, main_v8, main_v9}
theorem sfx_writes : ∀ ops ∈ ([hostOps1, hostOps1_1, hostOps1_2] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_1, List.mem_cons, List.mem_nil_iff, or_false] at hop
    rcases hop with rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_2, List.mem_cons, List.mem_nil_iff, or_false] at hop
    rcases hop with rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 1 rfl).trans ((hA c 1).trans (V_main_arg3 m c)),
      (Pipeline.RDat.FramePostR.arr_in h c 3 rfl).trans ((hA c 3).trans (V_main_arg4 m c)),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — decided over the grid. -/
theorem hcond0_2 : ∀ t : Fin cfg0.N, cond0_2 (grid0.coords t) ↔ 1 ≤ t.val % 4 :=
  (by decide +kernel : ∀ t : Fin grid0.N, cond0_2 (grid0.coords t) ↔ 1 ≤ t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x8 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x1024 .bf16 := Memref.whole cc0_scratch0
abbrev scM0_1 : Memref sig .tc .vmem S1024x8 .f32 := Memref.whole cc0_scratch1
abbrev scM0_2 : Memref sig .tc .vmem S1024x2048 .bf16 := Memref.whole cc0_scratch2
/-- The scratch `arg11` the kernel carries between points, as a view: what it holds is stated through it. -/
abbrev VS0_0 : View sig .tc .vmem S1024x1024 .bf16 := scM0_0.view
/-- The scratch `arg12` the kernel carries between points, as a view: what it holds is stated through it. -/
abbrev VS0_1 : View sig .tc .vmem S1024x8 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Moe

end
-- ==== Proof.Moe.KRunA.lean ====
/- The printed kernel's body at the first point of a token block. -/
module

public import proofs.«01_k».proof.Proof.Moe.KRuns

@[expose] public section

set_option maxRecDepth 16384

noncomputable section

namespace Cert.Kernel.Moe

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 taken, `scf.if` 2 not taken: points 0, 4, 8, 12), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_A (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : cond0_0 i) (hc1 : cond0_1 i) (hc2 : ¬cond0_2 i)
    (x0 : Vec F S1024x1024 .f32) (x1 : Vec F S8x1024 .f32) (x2 : Vec F S8x1 .f32) (x3 : Vec F S2x1024x1024 .f32) (x4 : Vec F S2048x1024 .f32) :
    Σ' (LS0 : List (View.Piece (Elt F) S1024x1024 .bf16)), { LS1 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__moe_kernel_eq_skeleton]; unfold cc0__moe_kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]; · iexists _; iexact HS1
    iexists _, _; isplitr; swap; · iexact HS2
    ipureintro; rfl

end Cert.Kernel.Moe

end
-- ==== Proof.Moe.KRunB.lean ====
/- The printed kernel's body at the later points of a token block. -/
module

public import proofs.«01_k».proof.Proof.Moe.KRunA

@[expose] public section

set_option maxRecDepth 16384

noncomputable section

namespace Cert.Kernel.Moe

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE B (`scf.if` 0 not taken, `scf.if` 1 not taken, `scf.if` 2 taken: points 1, 2, … 15: 12 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_B (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : ¬cond0_0 i) (hc1 : ¬cond0_1 i) (hc2 : cond0_2 i)
    (x0 : Vec F S1024x1024 .f32) (x1 : Vec F S8x1024 .f32) (x2 : Vec F S8x1 .f32) (x3 : Vec F S2x1024x1024 .f32) (x4 : Vec F S2048x1024 .f32) (xs0 : Vec F S1024x1024 .bf16) (xs1 : Vec F S1024x8 .f32) :
    Σ' (LS0 : List (View.Piece (Elt F) S1024x1024 .bf16)), { LS1 : List (View.Piece (Elt F) S1024x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ (∃ d, owns (c : Thread nD τ) arg13 fullShare d)) -∗ K ⟨⟩))
          ⊢ wp frame (wpE (defs₀ (F := F)) Variants.none c none) E (cc0__moe_kernel i arg2 harg2 arg3 harg3 arg4 harg4 arg5 harg5 arg6 harg6 arg7 harg7 arg8 harg8 arg9 harg9 arg10 harg10 arg11 harg11 arg12 harg12 arg13 harg13) K } := by
  refine ⟨[], [], fun E K => ?run⟩
  case run =>
    simp only [cc0__moe_kernel_eq_skeleton]; unfold cc0__moe_kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hfs0; obtain rfl := harg12.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg11.read_unread _
      iexact HS0
    isplitl [HS1]
    · iexists _; isplitr; · ipureintro; exact harg12.read_unread _
      iexact HS1
    iexists _, _; isplitr; swap; · iexact HS2
    ipureintro; rfl

end Cert.Kernel.Moe

end
-- ==== Proof.Moe.KFrame.lean ====
/- The printed kernel's frame: what the carried scratch holds, the run, the arguments unchanged. -/
module

public import proofs.«01_k».proof.Proof.Moe.KRunB
public import Idealize.ShloMosaic.Lib.Claim

@[expose] public section

set_option maxRecDepth 16384

noncomputable section

namespace Cert.Kernel.Moe

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for scratch `arg11`, which the kernel carries between points, cover it: 1 piece of `S1024x1024` tiling it (Lib/Ring.lean `Piece.tiledL`). -/
theorem scover0_A_0 (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : cond0_0 i) (hc1 : cond0_1 i) (hc2 : ¬cond0_2 i)
    (x0 : Vec F S1024x1024 .f32) (x1 : Vec F S8x1024 .f32) (x2 : Vec F S8x1 .f32) (x3 : Vec F S2x1024x1024 .f32) (x4 : Vec F S2048x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4).1 S1024x1024.size (by sl_kernel_rfl) y

/-- What case A leaves in scratch `arg11`: its pieces read back over junk. -/
def sout0_A_0 (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : cond0_0 i) (hc1 : cond0_1 i) (hc2 : ¬cond0_2 i)
    (x0 : Vec F S1024x1024 .f32) (x1 : Vec F S8x1024 .f32) (x2 : Vec F S8x1 .f32) (x3 : Vec F S2x1024x1024 .f32) (x4 : Vec F S2048x1024 .f32) : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4).1)

/-- Case A's pieces for scratch `arg12`, which the kernel carries between points, cover it: 1 piece of `S1024x8` tiling it (Lib/Ring.lean `Piece.tiledL`). -/
theorem scover0_A_1 (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : cond0_0 i) (hc1 : cond0_1 i) (hc2 : ¬cond0_2 i)
    (x0 : Vec F S1024x1024 .f32) (x1 : Vec F S8x1024 .f32) (x2 : Vec F S8x1 .f32) (x3 : Vec F S2x1024x1024 .f32) (x4 : Vec F S2048x1024 .f32) (y : S1024x8.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4).2.1 S1024x8.size (by sl_kernel_rfl) y

/-- What case A leaves in scratch `arg12`: its pieces read back over junk. -/
def sout0_A_1 (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : cond0_0 i) (hc1 : cond0_1 i) (hc2 : ¬cond0_2 i)
    (x0 : Vec F S1024x1024 .f32) (x1 : Vec F S8x1024 .f32) (x2 : Vec F S8x1 .f32) (x3 : Vec F S2x1024x1024 .f32) (x4 : Vec F S2048x1024 .f32) : Vec F S1024x8 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4).2.1)

/-- Case B stores nothing into scratch `arg11`: it holds what the point before left. -/
def sout0_B_0 (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : ¬cond0_0 i) (hc1 : ¬cond0_1 i) (hc2 : cond0_2 i)
    (x0 : Vec F S1024x1024 .f32) (x1 : Vec F S8x1024 .f32) (x2 : Vec F S8x1 .f32) (x3 : Vec F S2x1024x1024 .f32) (x4 : Vec F S2048x1024 .f32) (xs0 : Vec F S1024x1024 .bf16) (xs1 : Vec F S1024x8 .f32) : Vec F S1024x1024 .bf16 := xs0

/-- Case B stores nothing into scratch `arg12`: it holds what the point before left. -/
def sout0_B_1 (c : Dev nD) (i : grid0.Coords) (arg2 : Memref sig .tc .vmem S1024x1024 .f32) (harg2 : arg2.IsWhole) (arg3 : Memref sig .tc .vmem S8x1024 .f32) (harg3 : arg3.IsWhole) (arg4 : Memref sig .tc .vmem S8x1 .f32) (harg4 : arg4.IsWhole) (arg5 : Memref sig .tc .vmem S2x1024x1024 .f32) (harg5 : arg5.IsWhole) (arg6 : Memref sig .tc .vmem S2048x1024 .f32) (harg6 : arg6.IsWhole) (arg7 : Memref sig .tc .vmem S1024x1024 .f32) (harg7 : arg7.IsWhole) (arg8 : Memref sig .tc .vmem S1x1x8 .f32) (harg8 : arg8.IsWhole) (arg9 : Memref sig .tc .vmem S1x1x8 .f32) (harg9 : arg9.IsWhole) (arg10 : Memref sig .tc .vmem S1x1x8 .f32) (harg10 : arg10.IsWhole) (arg11 : Memref sig .tc .vmem S1024x1024 .bf16) (harg11 : arg11.IsWhole) (arg12 : Memref sig .tc .vmem S1024x8 .f32) (harg12 : arg12.IsWhole) (arg13 : Memref sig .tc .vmem S1024x2048 .bf16) (harg13 : arg13.IsWhole) (hc0 : ¬cond0_0 i) (hc1 : ¬cond0_1 i) (hc2 : cond0_2 i)
    (x0 : Vec F S1024x1024 .f32) (x1 : Vec F S8x1024 .f32) (x2 : Vec F S8x1 .f32) (x3 : Vec F S2x1024x1024 .f32) (x4 : Vec F S2048x1024 .f32) (xs0 : Vec F S1024x1024 .bf16) (xs1 : Vec F S1024x8 .f32) : Vec F S1024x8 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .bf16 × Vec F S1024x8 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 = 0 then
        if h2 : 1 ≤ (n + 1) % 4 then
          False.elim (by have hN : n + 1 < 16 := lt_of_lt_of_eq hn (show cfg0.N = 16 from N_0); omega)
        else
          (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 16 := lt_of_lt_of_eq hn (show cfg0.N = 16 from N_0); omega)
    else
      if h1 : (n + 1) % 4 = 0 then
        False.elim (by have hN : n + 1 < 16 := lt_of_lt_of_eq hn (show cfg0.N = 16 from N_0); omega)
      else
        if h2 : 1 ≤ (n + 1) % 4 then
          (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)
        else
          False.elim (by have hN : n + 1 < 16 := lt_of_lt_of_eq hn (show cfg0.N = 16 from N_0); omega)

/-- `outsAt0` at a point of case A: that case's contents. -/
theorem outsAt0_A (c : Dev nD) (t : Fin cfg0.N) (h0 : t.val % 4 = 0) (h1 : t.val % 4 = 0) (h2 : ¬1 ≤ t.val % 4) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 4 = 0) (h1 : ¬t.val % 4 = 0) (h2 : 1 ≤ t.val % 4) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2) ∗ (∃ d, owns (c : Thread nD τ) scM0_2 fullShare d)) ∗ (∃ r, prngReg c r)) := by
  cases n with
  | zero => exact absurd rfl hz
  | succ n => rfl

/-! ## The pipeline's proof data -/

/-- The output windows this certificate FORGETS (5, 6, 7, 8): nothing reads what the kernel leaves in them, so nothing
    of it is named (Lib/Pipeline/Dat.lean `Dat.toRForget`). -/
def forgets0 : Fin 9 → Bool := fun w => w.val == 5 || w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 0
    · by_cases h2 : 1 ≤ t.val % 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · rw [PhiS_castSucc m c t, PhiS_zero m c _ _ hz, PhiA0_eq]
          rw [outsAt0_A m c t h0 h1 h2]
          unfold sout0_A_0 sout0_A_1; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [H8]; · iexists _; iexact H8
          isplitl [HS0]; · iexact HS0
          isplitl [HS1]; · iexact HS1
          isplitl [HS2]; · iexact HS2
          iintro ⟨H0, H1, H2, H3, H4, H5, H6, H7, H8, ⟨%es0, HS0⟩, ⟨%es1, HS1⟩, HS2⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        · rw [PhiS_castSucc m c t, PhiS_pos m c _ _ hz]
          rw [outsAt0_A m c t h0 h1 h2]
          unfold sout0_A_0 sout0_A_1; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [H8]; · iexists _; iexact H8
          isplitl [HS0]; · iexists _; iexact HS0
          isplitl [HS1]; · iexists _; iexact HS1
          isplitl [HS2]; · iexact HS2
          iintro ⟨H0, H1, H2, H3, H4, H5, H6, H7, H8, ⟨%es0, HS0⟩, ⟨%es1, HS1⟩, HS2⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
    · exfalso; omega
  · by_cases h1 : t.val % 4 = 0
    · exfalso; omega
    · by_cases h2 : 1 ≤ t.val % 4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]
          unfold sout0_B_0 sout0_B_1; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [H7]; · iexists _; iexact H7
          isplitl [H8]; · iexists _; iexact H8
          isplitl [HS0]; · iexact HS0
          isplitl [HS1]; · iexact HS1
          isplitl [HS2]; · iexact HS2
          iintro ⟨H0, H1, H2, H3, H4, H5, H6, H7, H8, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Moe

end
-- ==== Proof.Moe.RefFrame.lean ====
/- The reference's frame: its arguments end unchanged and, having no semaphore, every counter ends at zero. -/
module

public import proofs.«01_k».proof.Proof.Gen.ReferenceIdeal.Run
public import Idealize.ShloMosaic.Lib.Quiescent

@[expose] public section

noncomputable section

namespace Cert.ReferenceIdeal.Moe

open Idealize.ShloMosaic Idealize.SL.Sem Cert.ReferenceIdeal

variable {F : FTy → Type} [FloatOps F]

/-- Every execution of the reference terminates with the six arguments unchanged and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2, sem_eq_zero_of_no_sems (by decide) r.2⟩)
    (Cert.ReferenceIdeal.Value.run m ρ)

end Cert.ReferenceIdeal.Moe

end
-- ==== Proof.Moe.Top2.lean ====
/- The two greatest of eight extended reals, ties broken by the smaller position: what a stable descending sort puts
   first and second, what two rounds of maximum and first position find, and the weights made of them. -/
module

public import Idealize.ShloMosaic.PureOps.Ideal.Laws
public import Idealize.ShloMosaic.Lib.SortFacts

@[expose] public section

set_option maxRecDepth 16384

noncomputable section

namespace Cert.Top2

open Idealize.ShloMosaic

/-- `a` comes before `b` in descending order, an equal entry at a smaller position first. -/
def Before (l : Fin 8 → EReal) (a b : Fin 8) : Prop := l b < l a ∨ (l a = l b ∧ a < b)

/-- `a` is the first and `b` the second in that order. -/
structure Is (l : Fin 8 → EReal) (a b : Fin 8) : Prop where
  ne : a ≠ b
  fst : ∀ e, e ≠ a → Before l a e
  snd : ∀ e, e ≠ a → e ≠ b → Before l b e

theorem before_total (l : Fin 8 → EReal) {a b : Fin 8} (h : a ≠ b) (hb : ¬ Before l b a) : Before l a b := by
  unfold Before at *
  push Not at hb
  rcases lt_or_eq_of_le hb.1 with h1 | h1
  · exact .inl h1
  · exact .inr ⟨h1.symm, lt_of_le_of_ne (hb.2 h1) h⟩

theorem before_asymm (l : Fin 8 → EReal) {a b : Fin 8} (h : Before l a b) : ¬ Before l b a := by
  unfold Before at *
  rintro (h1 | ⟨h1, h2⟩)
  · rcases h with h | ⟨h, _⟩
    · exact lt_asymm h h1
    · exact absurd h (ne_of_lt h1)
  · rcases h with h | ⟨_, h⟩
    · exact absurd h1 (ne_of_lt h)
    · exact lt_asymm h h2

theorem not_before_trans (l : Fin 8 → EReal) {a b c : Fin 8} (h : ¬ Before l a b) (h' : ¬ Before l b c) : ¬ Before l a c := by
  unfold Before at *
  push Not at h h'
  rintro (h1 | ⟨h1, h2⟩)
  · exact absurd (h.1.trans h'.1) (not_le_of_gt h1)
  · have e1 : l a = l b := le_antisymm h.1 (h1 ▸ h'.1)
    have e2 : l b = l c := e1.symm.trans h1
    exact absurd ((h'.2 e2).trans (h.2 e1)) (not_le_of_gt h2)

/-- Two relations that agree wherever a later element is asked whether it comes before an earlier one sort alike. -/
theorem stableSort_eq {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The sort by the entries alone. -/
abbrev gtB (l : Fin 8 → EReal) (a b : Fin 8) : Bool := decide (l b < l a)

/-- The positions of the greatest and of the second greatest entry. -/
def first (l : Fin 8 → EReal) : Fin 8 := sortedFrom (gtB l) 0
@[inherit_doc first] def second (l : Fin 8 → EReal) : Fin 8 := sortedFrom (gtB l) 1

open Classical in
/-- A stable descending sort puts the first and the second in that order at its first two places. -/
theorem is_sorted (l : Fin 8 → EReal) : Is l (first l) (second l) := by
  let B : Fin 8 → Fin 8 → Bool := fun a b => decide (Before l a b)
  have hs : sortedFrom (gtB l) = sortedFrom B := by
    funext k
    have : sortPositions 8 (gtB l) = sortPositions 8 B := by
      refine stableSort_eq _ _ _ ((List.pairwise_lt_finRange 8).imp fun {a b} h => ?_)
      show decide _ = decide _
      exact decide_eq_decide.mpr ⟨Or.inl, fun h' => h'.resolve_right fun h'' => absurd h''.2 (not_lt_of_gt h)⟩
    unfold sortedFrom
    rw [List.get_of_eq this]
    rfl
  have inj := sortedFrom_injective B
  have hno := sortedFrom_noInversion B B (fun a b h => by
      simp only [B, decide_eq_true_eq, decide_eq_false_iff_not] at *; exact before_asymm l h) (fun _ _ h => h)
    (fun a b c h h' => by simp only [B, decide_eq_false_iff_not] at *; exact not_before_trans l h h')
  have key : ∀ i j : Fin 8, i < j → Before l (sortedFrom B i) (sortedFrom B j) := fun i j hij =>
    before_total l (fun e => absurd (inj e) (ne_of_lt hij)) (by simpa only [B, decide_eq_false_iff_not] using hno i j hij)
  unfold first second
  rw [hs]
  refine ⟨fun e => absurd (inj e) (by decide), fun e he => ?_, fun e he he' => ?_⟩
  · obtain ⟨k, rfl⟩ := sortedFrom_surjective B e
    exact key 0 k (Fin.pos_iff_ne_zero.mpr fun h => he (by rw [h]))
  · obtain ⟨k, rfl⟩ := sortedFrom_surjective B e
    have h0 : k ≠ 0 := fun h => he (by rw [h])
    have h1 : k ≠ 1 := fun h => he' (by rw [h])
    exact key 1 k (by omega)

section
variable {l : Fin 8 → EReal} {a b : Fin 8} (h : Is l a b)
include h

theorem Is.le_fst (e : Fin 8) : l e ≤ l a := by
  by_cases he : e = a
  · rw [he]
  · rcases h.fst e he with h | h
    · exact h.le
    · exact h.1.ge

theorem Is.le_snd (e : Fin 8) (he : e ≠ a) : l e ≤ l b := by
  by_cases he' : e = b
  · rw [he']
  · rcases h.snd e he he' with h | h
    · exact h.le
    · exact h.1.ge

/-- The fold of `max` over the entries is the first one's. -/
theorem Is.fold_fst : (Finset.univ : Finset (Fin 8)).fold max (⊥ : EReal) l = l a := by
  refine le_antisymm ?_ ?_
  · exact (Finset.fold_max_le _).mpr ⟨bot_le, fun e _ => h.le_fst e⟩
  · exact (Finset.le_fold_max _).mpr (.inr ⟨a, Finset.mem_univ _, le_rfl⟩)

/-- With the first masked out the fold of `max` is the second one's. -/
theorem Is.fold_snd : (Finset.univ : Finset (Fin 8)).fold max (⊥ : EReal) (fun e => if e = a then ⊥ else l e) = l b := by
  refine le_antisymm ?_ ?_
  · refine (Finset.fold_max_le _).mpr ⟨bot_le, fun e _ => ?_⟩
    split
    · exact bot_le
    · exact h.le_snd e ‹_›
  · exact (Finset.le_fold_max _).mpr (.inr ⟨b, Finset.mem_univ _, by rw [if_neg h.ne.symm]⟩)

end

/-- Folding the signed minimum over the positions where a test holds, and over 8 elsewhere, finds the first of them. -/
theorem fold_min_bool : ∀ (p : Fin 8 → Bool) (a : Fin 8), p a = true → (∀ e, e < a → p e = false) →
    (Finset.univ : Finset (Fin 8)).fold IntOp.minsi (2147483647#32) (fun e => if p e = true then BitVec.ofNat 32 e.val else 8#32)
      = BitVec.ofNat 32 a.val := by
  decide +kernel

open Classical in
theorem fold_min (p : Fin 8 → Prop) (a : Fin 8) (ha : p a) (h : ∀ e, e < a → ¬ p e) :
    (Finset.univ : Finset (Fin 8)).fold IntOp.minsi (2147483647#32) (fun e => if p e then BitVec.ofNat 32 e.val else 8#32)
      = BitVec.ofNat 32 a.val := by
  have := fold_min_bool (fun e => decide (p e)) a (by simpa using ha) (fun e he => by simpa using h e he)
  simpa only [decide_eq_true_eq] using this

section
variable {l : Fin 8 → EReal} {a b : Fin 8} (h : Is l a b)
include h

/-- The first position holding the maximum is the first one. -/
theorem Is.min_fst : (Finset.univ : Finset (Fin 8)).fold IntOp.minsi (2147483647#32)
    (fun e => if l e = l a then BitVec.ofNat 32 e.val else 8#32) = BitVec.ofNat 32 a.val := by
  refine (Finset.fold_congr fun e _ => ?_).trans (fold_min (fun e => l e = l a) a rfl fun e he hl => ?_)
  · congr
  · rcases h.fst e (ne_of_lt he) with h | h
    · exact absurd hl (ne_of_lt h)
    · exact lt_asymm he h.2

/-- The first position holding the maximum of the rest is the second one. -/
theorem Is.min_snd (hb : l b ≠ ⊥) : (Finset.univ : Finset (Fin 8)).fold IntOp.minsi (2147483647#32)
    (fun e => if (if e = a then ⊥ else l e) = l b then BitVec.ofNat 32 e.val else 8#32) = BitVec.ofNat 32 b.val := by
  refine (Finset.fold_congr fun e _ => ?_).trans (fold_min (fun e => (if e = a then ⊥ else l e) = l b) b (if_neg h.ne.symm) fun e he hl => ?_)
  · congr
  · by_cases ha : e = a
    · rw [if_pos ha] at hl; exact hb hl.symm
    · rw [if_neg ha] at hl
      rcases h.snd e ha (ne_of_lt he) with h | h
      · exact absurd hl (ne_of_lt h)
      · exact lt_asymm he h.2

end

/-- The weight of the first: one over one plus the exponential of the gap. -/
def wt (u v : EReal) : EReal := Ideal.div 1 (1 + Ideal.exp (v - u))

/-- Between finite entries the weight is a real in the unit interval, its complement is the other softmax weight. -/
theorem wt_real (u v : ℝ) : ∃ r : ℝ, 0 ≤ r ∧ r ≤ 1 ∧ wt u v = r ∧ Ideal.div (Ideal.exp (v - u)) (1 + Ideal.exp (v - u)) = ((1 - r : ℝ) : EReal) := by
  have he : Ideal.exp ((v : EReal) - u) = (Real.exp (v - u) : EReal) := by rw [← EReal.coe_sub]; rfl
  have hp := Real.exp_pos (v - u)
  set t := Real.exp (v - u)
  have hd : (1 : EReal) + (t : EReal) = ((1 + t : ℝ) : EReal) := by push_cast; rfl
  have hne : ((1 + t : ℝ) : EReal) ≠ 0 := by
    have : (1 + t : ℝ) ≠ 0 := by positivity
    exact_mod_cast this
  refine ⟨1 / (1 + t), by positivity, (div_le_one (by positivity)).mpr (by linarith), ?_, ?_⟩
  · unfold wt
    rw [he, hd, Ideal.div, if_neg hne, ← EReal.coe_inv, ← EReal.coe_one, ← EReal.coe_mul]
    congr 1
  · rw [he, hd, Ideal.div, if_neg hne, ← EReal.coe_inv, ← EReal.coe_mul]
    congr 1; field_simp; ring

/-- The combine weight of expert `e`: the first's weight, the second's its complement, no other. -/
def cmb (l : Fin 8 → EReal) (e : Fin 8) : EReal :=
  (if e = first l then 1 else 0) * wt (l (first l)) (l (second l))
    + (if e = second l then 1 else 0) * (1 - wt (l (first l)) (l (second l)))

/-- How often expert `e` is chosen. -/
def cnt (l : Fin 8 → EReal) (e : Fin 8) : EReal := (if e = first l then 1 else 0) + (if e = second l then 1 else 0)

/-- The softmax of the entries. -/
def prob (l : Fin 8 → EReal) (e : Fin 8) : EReal :=
  Ideal.div (Ideal.exp (l e - l (first l))) (∑ k, Ideal.exp (l k - l (first l)))

/-- A combine weight of finite entries is a nonnegative real. -/
theorem cmb_real (l : Fin 8 → EReal) (hl : ∀ e, ∃ r : ℝ, l e = r) (e : Fin 8) : ∃ r : ℝ, 0 ≤ r ∧ cmb l e = r := by
  obtain ⟨u, hu⟩ := hl (first l)
  obtain ⟨v, hv⟩ := hl (second l)
  obtain ⟨r, h0, h1, hw, -⟩ := wt_real u v
  unfold cmb
  rw [hu, hv, hw]
  refine ⟨(if e = first l then 1 else 0) * r + (if e = second l then 1 else 0) * (1 - r), ?_, ?_⟩
  · split <;> split <;> simp <;> linarith
  · split <;> split
    · rename_i h h'; exact absurd (h.symm.trans h') (is_sorted l).ne
    all_goals simp

end Cert.Top2

end
-- ==== Proof.Moe.Block.lean ====
/- The routing of one block of 1024 tokens, entry by entry: the logits, the two greatest of them, the softmax, the
   combine weights, and the block's three statistics. -/
module

public import proofs.«01_k».proof.Proof.Moe.Core
public import proofs.«01_k».proof.Proof.Moe.Top2
public import Idealize.ShloMosaic.Lib.Pointwise
public import Idealize.ShloMosaic.Lib.IdealHost

@[expose] public section

set_option maxRecDepth 16384

noncomputable section

namespace Cert.KernelIdeal.Moe

open Cert.KernelIdeal.Gen Cert.Top2
open Idealize.ShloMosaic

variable (x : FVec Ideal S1024x1024 .f32) (k : FVec Ideal S8x1024 .f32) (b : FVec Ideal S8x1 .f32)

/-- Token `t`'s logit for expert `e`. -/
def lgB (t : Fin 1024) (e : Fin 8) : EReal := ∑ d : Fin 1024, k (ix2 e d) * x (ix2 t d) + b (ix2 e 0)

/-- Two experts' numbers as words are equal just where the experts are. -/
theorem cmpi_fin (e a : Fin 8) : IntOp.cmpi .eq (BitVec.ofNat 32 e.val) (BitVec.ofNat 32 a.val) = if e = a then 1#1 else 0#1 := by
  revert e a; decide

/-- A choice made by that comparison. -/
theorem select_fin {α : Type} (e a : Fin 8) (u v : α) :
    Scalar.select (IntOp.cmpi .eq (BitVec.ofNat 32 e.val) (BitVec.ofNat 32 a.val)) u v = if e = a then u else v := by
  rw [cmpi_fin]; split <;> rfl

/-- That comparison as a float: one or zero. -/
theorem sitofp_fin (e a : Fin 8) : (FloatOps.sitofp .f32 (BitVec.setWidth 32
    (IntOp.cmpi .eq (BitVec.ofNat 32 e.val) (BitVec.ofNat 32 a.val))) : Ideal .f32) = (if e = a then 1 else 0 : EReal) := by
  rw [cmpi_fin]
  show (((BitVec.toInt _ : ℤ) : ℝ) : EReal) = _
  split <;> simp

/-- The word of minus infinity. -/
theorem ofBits_neg_inf : Ideal.ofBits .f32 0xFF800000#32 = ⊥ := by simp [Ideal.ofBits, Ideal.ieee]

/-- The logits of the block. -/
theorem pay6_at (e : Fin 8) (t : Fin 1024) : k0_pay6 (F := Ideal) x k b (ix2 e t) = lgB x k b t e := by
  unfold lgB
  pointwise [k0_pay6, k0_pay4]

/-- Their maximum is the first one's. -/
theorem pay7_at (t : Fin 1024) : k0_pay7 (F := Ideal) x k b (ix2 0 t) = lgB x k b t (first (lgB x k b t)) := by
  rw [← (is_sorted (lgB x k b t)).fold_fst]
  pointwise [k0_pay7]
  simp only [pay6_at, ofBits_neg_inf]

/-- The first position that holds it is the first one. -/
theorem pay9_at (t : Fin 1024) : k0_pay9 (F := Ideal) x k b (ix2 0 t) = BitVec.ofNat 32 (first (lgB x k b t)).val := by
  rw [← (is_sorted (lgB x k b t)).min_fst]
  pointwise [k0_pay9]
  simp only [pay6_at, pay7_at]

/-- The logits with the first one masked out. -/
theorem pay10_at (e : Fin 8) (t : Fin 1024) : k0_pay10 (F := Ideal) x k b (ix2 e t) = if e = first (lgB x k b t) then ⊥ else lgB x k b t e := by
  pointwise [k0_pay10]
  rw [pay9_at, select_fin, pay6_at, ofBits_neg_inf]

/-- Their maximum is the second one's. -/
theorem pay11_at (t : Fin 1024) : k0_pay11 (F := Ideal) x k b (ix2 0 t) = lgB x k b t (second (lgB x k b t)) := by
  rw [← (is_sorted (lgB x k b t)).fold_snd]
  pointwise [k0_pay11]
  simp only [pay10_at, ofBits_neg_inf]

/-- The first position that holds it is the second one, which is not minus infinity. -/
theorem pay12_at (t : Fin 1024) (hb : lgB x k b t (second (lgB x k b t)) ≠ ⊥) :
    k0_pay12 (F := Ideal) x k b (ix2 0 t) = BitVec.ofNat 32 (second (lgB x k b t)).val := by
  rw [← (is_sorted (lgB x k b t)).min_snd hb]
  pointwise [k0_pay12]
  simp only [pay10_at, pay11_at]

/-- The exponential of the gap between the two. -/
theorem pay13_at (t : Fin 1024) : k0_pay13 (F := Ideal) x k b (ix2 0 t)
    = Ideal.exp (lgB x k b t (second (lgB x k b t)) - lgB x k b t (first (lgB x k b t))) := by
  pointwise [k0_pay13]
  rw [pay11_at, pay7_at]

/-- The block's sum of squared logits. -/
theorem sqOf_at (e : Fin 8) : sqOf (F := Ideal) x k b (ix3 0 0 e) = ∑ e, ∑ t, lgB x k b t e * lgB x k b t e := by
  unfold sqOf
  pointwise [k0_pay19]
  simp only [pay6_at]

/-- The block's sum of an expert's probabilities. -/
theorem psumOf_at (e : Fin 8) : psumOf (F := Ideal) x k b (ix3 0 0 e) = ∑ t, prob (lgB x k b t) e := by
  unfold psumOf prob
  pointwise [k0_pay17, k0_pay8]
  simp only [pay6_at, pay7_at]

section
variable (hl : ∀ t, lgB x k b t (second (lgB x k b t)) ≠ ⊥)
include hl

/-- How often the block's tokens choose an expert. -/
theorem cntOf_at (e : Fin 8) : cntOf (F := Ideal) x k b (ix3 0 0 e) = ∑ t, cnt (lgB x k b t) e := by
  unfold cntOf cnt
  pointwise [k0_pay18, k0_pay14, k0_pay15, rows8]
  simp only [pay9_at, pay12_at x k b _ (hl _), sitofp_fin]

/-- A token's combine weights. -/
theorem cmbOf_at (t : Fin 1024) (e : Fin 8) : cmbOf (F := Ideal) x k b (ix2 t e) = cmb (lgB x k b t) e := by
  unfold cmbOf cmb wt
  pointwise [k0_pay16, k0_pay14, k0_pay15, rows8]
  simp only [pay9_at, pay12_at x k b _ (hl _), pay13_at, sitofp_fin]

end

end Cert.KernelIdeal.Moe

end
-- ==== Proof.Moe.Expert.lean ====
/- What a pair of experts adds to a block of 1024 tokens, entry by entry: the hidden activations scaled by the combine
   weights, and their product with the second matrices. -/
module

public import proofs.«01_k».proof.Proof.Moe.Block

@[expose] public section

set_option maxRecDepth 16384

noncomputable section

namespace Cert.KernelIdeal.Moe

open Cert.KernelIdeal.Gen Cert.Top2
open Idealize.ShloMosaic

/-- Expert `q` of pair `p`. -/
abbrev ex (p : Fin 4) (q : Fin 2) : Fin 8 := ⟨2 * p.val + q.val, by omega⟩

/-- The kernel's word for a pair's first and second expert. -/
theorem word_fst : ∀ p : Fin 4, Scalar.addi (Scalar.muli (BitVec.ofNat 32 p.val) 2#32) 0#32 = BitVec.ofNat 32 (ex p 0).val := by decide
@[inherit_doc word_fst] theorem word_snd : ∀ p : Fin 4, Scalar.addi (Scalar.muli (BitVec.ofNat 32 p.val) 2#32) 1#32 = BitVec.ofNat 32 (ex p 1).val := by decide

/-- A sum of entries each times the test for one place is the entry there. -/
theorem sum_pick (f : Fin 8 → EReal) (a : Fin 8) : ∑ e, f e * (if e = a then 1 else 0) = f a := by
  simp only [mul_ite, mul_one, mul_zero, Finset.sum_ite_eq', Finset.mem_univ, if_true]

/-- The kernel's sum of a row against the test for the pair's expert picks that expert's entry. -/
theorem pick_fst (p : Fin 4) (g : Fin 8 → Ideal .f32) : ∑ e : Fin 8, g e * FloatOps.sitofp .f32 (BitVec.setWidth 32
    (IntOp.cmpi .eq (BitVec.ofNat 32 e.val) (Scalar.addi (Scalar.muli (BitVec.ofNat 32 p.val) 2#32) 0#32))) = g (ex p 0) := by
  rw [word_fst]
  exact (Finset.sum_congr rfl fun e _ => by rw [sitofp_fin]).trans (sum_pick g (ex p 0))
@[inherit_doc pick_fst] theorem pick_snd (p : Fin 4) (g : Fin 8 → Ideal .f32) : ∑ e : Fin 8, g e * FloatOps.sitofp .f32 (BitVec.setWidth 32
    (IntOp.cmpi .eq (BitVec.ofNat 32 e.val) (Scalar.addi (Scalar.muli (BitVec.ofNat 32 p.val) 2#32) 1#32))) = g (ex p 1) := by
  rw [word_snd]
  exact (Finset.sum_congr rfl fun e _ => by rw [sitofp_fin]).trans (sum_pick g (ex p 1))

variable (xb : FVec Ideal S1024x1024 .bf16) (w1 : FVec Ideal S2x1024x1024 .f32) (cb : FVec Ideal S1024x8 .f32)

/-- Token `t`'s hidden activation `f` of expert `q` of pair `p`, scaled by its combine weight. -/
def hidE (p : Fin 4) (q : Fin 2) (t f : Fin 1024) : EReal :=
  max (∑ j : Fin 1024, xb (ix2 t j) * w1 (ix3 q j f)) 0 * cb (ix2 t (ex p q))

theorem pay20_at (i : grid0.Coords) (p : Fin 4) (hp : (i 1).val = p.val) (w : FVec Ideal S1x1024x1024 .f32) (t f : Fin 1024) :
    k0_pay20 (F := Ideal) i xb w cb (ix2 t f) = max (∑ j : Fin 1024, xb (ix2 t j) * w (ix3 0 j f)) 0 * cb (ix2 t (ex p 0)) := by
  pointwise [k0_pay20]
  rw [hp, pick_fst p fun e => cb (ix2 t e)]

theorem pay1_at (p : Fin 4) (w : FVec Ideal S1x1024x1024 .f32) (t f : Fin 1024) :
    k0_pay1 (F := Ideal) (iota .tc S1024x8 32 [1] iota_S1024x8_d1_w32) (Scalar.addi (Scalar.muli (BitVec.ofNat 32 p.val) 2#32) 1#32) xb (k0_pay21 w) cb (ix2 t f)
      = max (∑ j : Fin 1024, xb (ix2 t j) * w (ix3 0 j f)) 0 * cb (ix2 t (ex p 1)) := by
  pointwise [k0_pay1, k0_pay21]
  rw [pick_snd p fun e => cb (ix2 t e)]

/-- The pair's first and second matrix, cut out of the two, entry by entry. -/
theorem ld_fst (j f : Fin 1024) : View.ld (Val := Elt Ideal) (e' := .f32) w1 (Rect.unit ![0, 0, 0] ![1, 1024, 1024] inb_S2x1024x1024_S1x1024x1024_0_0_0) (ix3 0 j f)
    = w1 (ix3 0 j f) := by
  refine View.ld_unit_apply_of (Val := Elt Ideal) (e := .f32) w1 _ _ _ _ _ fun a => ?_
  fin_cases a <;> first | rfl | exact (Nat.zero_add _).symm
@[inherit_doc ld_fst]
theorem ld_snd (j f : Fin 1024) : View.ld (Val := Elt Ideal) (e' := .f32) w1 (Rect.unit ![1, 0, 0] ![1, 1024, 1024] inb_S2x1024x1024_S1x1024x1024_1_0_0) (ix3 0 j f)
    = w1 (ix3 1 j f) := by
  refine View.ld_unit_apply_of (Val := Elt Ideal) (e := .f32) w1 _ _ _ _ _ fun a => ?_
  fin_cases a <;> first | rfl | exact (Nat.zero_add _).symm

/-- The two halves of the hidden activations. -/
theorem hid_fst (i : grid0.Coords) (p : Fin 4) (hp : (i 1).val = p.val) (t f : Fin 1024) :
    hid (F := Ideal) i xb w1 cb (ix2 t ⟨f.val, by omega⟩) = hidE xb w1 cb p 0 t f := by
  unfold hid glue
  have hf : ((ix2 t (⟨f.val, by omega⟩ : Fin 2048) : S1024x2048.Idx) 1).val < 1024 := f.isLt
  rw [dif_pos hf]
  refine (pay20_at xb cb i p hp _ t f).trans ?_
  unfold hidE
  exact congrArg (fun z => max z 0 * _) (Finset.sum_congr rfl fun j _ => congrArg (xb (ix2 t j) * ·) (ld_fst w1 j f))

theorem hid_snd (i : grid0.Coords) (p : Fin 4) (hp : (i 1).val = p.val) (t f : Fin 1024) :
    hid (F := Ideal) i xb w1 cb (ix2 t ⟨1024 + f.val, by omega⟩) = hidE xb w1 cb p 1 t f := by
  unfold hid glue
  have hf : ¬ ((ix2 t (⟨1024 + f.val, by omega⟩ : Fin 2048) : S1024x2048.Idx) 1).val < 1024 := by
    show ¬ (1024 + f.val) < 1024; omega
  rw [dif_neg hf, hp]
  have hi : (⟨((ix2 t (⟨1024 + f.val, by omega⟩ : Fin 2048) : S1024x2048.Idx) 1).val - 1024, by have := ValueIdx.idx2_lt1 (ix2 t (⟨1024 + f.val, by omega⟩ : Fin 2048) : S1024x2048.Idx); omega⟩ : Fin 1024) = f :=
    Fin.ext (by show 1024 + f.val - 1024 = f.val; omega)
  rw [hi]
  refine (pay1_at xb cb p _ t f).trans ?_
  unfold hidE
  exact congrArg (fun z => max z 0 * _) (Finset.sum_congr rfl fun j _ => congrArg (xb (ix2 t j) * ·) (ld_snd w1 j f))

/-- What the pair adds to token `t`'s output entry `d`. -/
def addE (w2 : FVec Ideal S2048x1024 .f32) (p : Fin 4) (q : Fin 2) (t d : Fin 1024) : EReal :=
  ∑ f : Fin 1024, hidE xb w1 cb p q t f * w2 (ix2 ⟨q.val * 1024 + f.val, by omega⟩ d)

theorem pay2_at (h : FVec Ideal S1024x2048 .bf16) (w2 : FVec Ideal S2048x1024 .f32) (t d : Fin 1024) :
    k0_pay2 (F := Ideal) h w2 (ix2 t d) = ∑ g : Fin 2048, h (ix2 t g) * w2 (ix2 g d) := by
  pointwise [k0_pay2]

theorem pay3_at (h : FVec Ideal S1024x2048 .bf16) (w2 : FVec Ideal S2048x1024 .f32) (o : FVec Ideal S1024x1024 .f32) (t d : Fin 1024) :
    k0_pay3 (F := Ideal) h w2 o (ix2 t d) = o (ix2 t d) + k0_pay2 (F := Ideal) h w2 (ix2 t d) := by
  pointwise [k0_pay3]

theorem prod_at (i : grid0.Coords) (p : Fin 4) (hp : (i 1).val = p.val) (w2 : FVec Ideal S2048x1024 .f32) (t d : Fin 1024) :
    k0_pay2 (F := Ideal) (hid i xb w1 cb) w2 (ix2 t d) = addE xb w1 cb w2 p 0 t d + addE xb w1 cb w2 p 1 t d := by
  rw [pay2_at, Fin.sum_univ_add (a := 1024) (b := 1024)]
  unfold addE
  congr 1
  · refine Finset.sum_congr rfl fun f _ => ?_
    refine congrArg₂ _ (hid_fst xb w1 cb i p hp t f) (congrArg w2 (Shape.idx_ext₂ ?_ rfl))
    show f.val = 0 * 1024 + f.val; omega
  · refine Finset.sum_congr rfl fun f _ => ?_
    refine congrArg₂ _ (hid_snd xb w1 cb i p hp t f) (congrArg w2 (Shape.idx_ext₂ ?_ rfl))
    show 1024 + f.val = 1 * 1024 + f.val; omega

end Cert.KernelIdeal.Moe

end
-- ==== Proof.Moe.Reads.lean ====
/- The kernel's blocks read at an index: which entry of which argument array each entry of an input block is. -/
module

public import proofs.«01_k».proof.Proof.Moe.Frame
public import proofs.«01_k».proof.Proof.Moe.Expert
public import Idealize.ShloMosaic.Lib.Pipeline.ValueKit
public import Idealize.ShloMosaic.Lib.Pointwise

@[expose] public section

set_option maxRecDepth 16384

noncomputable section

namespace Cert.KernelIdeal.Moe

open Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The block each window takes at each point: token block `t / 4`, pair of experts `t % 4`. -/
theorem idx_val : ∀ t : Fin cfg0.N, win0_0.index t = ![t.val / 4, 0] ∧ win0_1.index t = ![0, 0] ∧ win0_2.index t = ![0, 0]
    ∧ win0_3.index t = ![t.val % 4, 0, 0] ∧ win0_4.index t = ![t.val % 4, 0] ∧ win0_5.index t = ![t.val / 4, 0]
    ∧ win0_6.index t = ![t.val / 4, 0, 0] ∧ win0_7.index t = ![t.val / 4, 0, 0] ∧ win0_8.index t = ![t.val / 4, 0, 0] :=
  (by decide +kernel : ∀ t : Fin grid0.N, _)

/-- The batch and the place in it of row `r` of token block `i`. -/
abbrev bOf (i : Fin 4) : Fin 2 := ⟨i.val / 2, by omega⟩
@[inherit_doc bOf] abbrev tOf (i : Fin 4) (r : Fin 1024) : Fin 2048 := ⟨i.val % 2 * 1024 + r.val, by omega⟩

/-- The token block and the pair of experts of a point. -/
abbrev blkOf (t : Fin cfg0.N) : Fin 4 := ⟨t.val / 4, by have h := lt_of_lt_of_eq t.isLt N_0; omega⟩
@[inherit_doc blkOf] abbrev pairOf (t : Fin cfg0.N) : Fin 4 := ⟨t.val % 4, by omega⟩

/-- The three reshaped arguments the launch reads. -/
theorem V_v0 (c : Dev nD) : V m c main_v0 = shapeCast S4096x1024 (m ((c : Thread nD τ).loc main_arg0)) shapeCasts_S2x2048x1024_S4096x1024 := rfl
@[inherit_doc V_v0] theorem V_v1 (c : Dev nD) : V m c main_v1 = shapeCast S8x1 (m ((c : Thread nD τ).loc main_arg1)) shapeCasts_S8_S8x1 := rfl
@[inherit_doc V_v0] theorem V_v2 (c : Dev nD) : V m c main_v2 = shapeCast S8192x1024 (m ((c : Thread nD τ).loc main_arg5)) shapeCasts_S8x1024x1024_S8192x1024 := rfl

/-- The reshaped tokens, row by row, -/
theorem tokens_at (X : FVec Ideal S2x2048x1024 .f32) (i : Fin 4) (r d : Fin 1024) :
    shapeCast S4096x1024 X shapeCasts_S2x2048x1024_S4096x1024 (ix2 ⟨i.val * 1024 + r.val, by omega⟩ d) = X (ix3 (bOf i) (tOf i r) d) := by
  pointwise
  exact congrArg X (congrArg₂ (ix3 · · d) (Fin.ext (by show (i.val * 1024 + r.val) / 2048 = i.val / 2; omega))
    (Fin.ext (by show (i.val * 1024 + r.val) % 2048 = i.val % 2 * 1024 + r.val; omega)))
/-- and the reshaped second matrices. -/
theorem second_at (X : FVec Ideal S8x1024x1024 .f32) (p : Fin 4) (q : Fin 2) (f d : Fin 1024) :
    shapeCast S8192x1024 X shapeCasts_S8x1024x1024_S8192x1024 (ix2 ⟨p.val * 2048 + (q.val * 1024 + f.val), by omega⟩ d) = X (ix3 (ex p q) f d) := by
  pointwise
  exact congrArg X (congrArg (ix3 · f d) (Fin.ext (by show (p.val * 2048 + (q.val * 1024 + f.val)) / 1024 = 2 * p.val + q.val; omega)))
/-- The reshaped biases. -/
theorem bias_at (X : FVec Ideal S8 .f32) (e : Fin 8) : shapeCast S8x1 X shapeCasts_S8_S8x1 (ix2 e 0) = X (ix1 e) := by
  pointwise

theorem iblk0_at (c : Dev nD) (t : Fin cfg0.N) (r d : Fin 1024) :
    (show FVec Ideal S1024x1024 .f32 from iblk m c 0 t) (ix2 r d) = m ((c : Thread nD τ).loc main_arg0) (ix3 (bOf (blkOf t)) (tOf (blkOf t) r) d) := by
  refine Eq.trans ?_ (tokens_at (m ((c : Thread nD τ).loc main_arg0)) (blkOf t) r d)
  rw [← V_v0 m c]
  blk_ext [iblk, idx_val t]

theorem iblk1_at (c : Dev nD) (t : Fin cfg0.N) (e : Fin 8) (d : Fin 1024) :
    (show FVec Ideal S8x1024 .f32 from iblk m c 1 t) (ix2 e d) = m ((c : Thread nD τ).loc main_arg3) (ix2 e d) := by
  blk_ext! [iblk, V, idx_val t]

theorem iblk2_at (c : Dev nD) (t : Fin cfg0.N) (e : Fin 8) :
    (show FVec Ideal S8x1 .f32 from iblk m c 2 t) (ix2 e 0) = m ((c : Thread nD τ).loc main_arg1) (ix1 e) := by
  refine Eq.trans ?_ (bias_at (m ((c : Thread nD τ).loc main_arg1)) e)
  rw [← V_v1 m c]
  blk_ext [iblk, idx_val t]

theorem iblk3_at (c : Dev nD) (t : Fin cfg0.N) (q : Fin 2) (j f : Fin 1024) :
    (show FVec Ideal S2x1024x1024 .f32 from iblk m c 3 t) (ix3 q j f) = m ((c : Thread nD τ).loc main_arg4) (ix3 (ex (pairOf t) q) j f) := by
  blk_ext! [iblk, V, idx_val t]

theorem iblk4_at (c : Dev nD) (t : Fin cfg0.N) (q : Fin 2) (f d : Fin 1024) :
    (show FVec Ideal S2048x1024 .f32 from iblk m c 4 t) (ix2 ⟨q.val * 1024 + f.val, by omega⟩ d) = m ((c : Thread nD τ).loc main_arg5) (ix3 (ex (pairOf t) q) f d) := by
  refine Eq.trans ?_ (second_at (m ((c : Thread nD τ).loc main_arg5)) (pairOf t) q f d)
  rw [← V_v2 m c]
  blk_ext [iblk, idx_val t]

end Cert.KernelIdeal.Moe

end
-- ==== Proof.Moe.Spec.lean ====
/- The mathematics both programs compute: a token's eight logits, its combine weights, the weighted sum of the eight
   experts, and the sums the routing penalties are made of. -/
module

public import proofs.«01_k».proof.Proof.Moe.Top2
public import Idealize.ShloMosaic.Lib.ValueIdx
public import Idealize.ShloMosaic.Lib.Pointwise

@[expose] public section

set_option maxRecDepth 16384

noncomputable section

namespace Cert.Spec

open Cert.Top2 Idealize.ShloMosaic

variable (X : FVec Ideal ⟨3, ![2, 2048, 1024]⟩ .f32) (B : FVec Ideal ⟨1, ![8]⟩ .f32) (K : FVec Ideal ⟨2, ![8, 1024]⟩ .f32)
  (W1 W2 : FVec Ideal ⟨3, ![8, 1024, 1024]⟩ .f32)

/-- A token's logit for each expert. -/
def lg (b : Fin 2) (t : Fin 2048) (e : Fin 8) : EReal := ∑ d : Fin 1024, X (ix3 b t d) * K (ix2 e d) + B (ix1 e)

/-- One hidden activation of one expert at a token. -/
def hidden (b : Fin 2) (t : Fin 2048) (e : Fin 8) (f : Fin 1024) : EReal := max (∑ j : Fin 1024, X (ix3 b t j) * W1 (ix3 e j f)) 0

/-- One expert's output at a token, weighted. -/
def term (b : Fin 2) (t : Fin 2048) (d : Fin 1024) (e : Fin 8) : EReal :=
  (∑ f : Fin 1024, W2 (ix3 e f d) * hidden X W1 b t e f) * cmb (lg X B K b t) e

/-- The weighted sum of the experts' outputs at a token. -/
def out (b : Fin 2) (t : Fin 2048) (d : Fin 1024) : EReal := ∑ e : Fin 8, term X B K W1 W2 b t d e

/-- The softmax probabilities of an expert, summed over the tokens; -/
def probSum (e : Fin 8) : EReal := ∑ b : Fin 2, ∑ t : Fin 2048, prob (lg X B K b t) e
/-- how often the expert is selected; -/
def cntSum (e : Fin 8) : EReal := ∑ b : Fin 2, ∑ t : Fin 2048, cnt (lg X B K b t) e
/-- the logits' squares, summed over tokens and experts. -/
def sqSum : EReal := ∑ b : Fin 2, ∑ t : Fin 2048, ∑ e : Fin 8, lg X B K b t e * lg X B K b t e

/-- A finite nonnegative factor goes into a sum. -/
theorem sum_mul_real {ι : Type} (s : Finset ι) (f : ι → EReal) {z : EReal} {r : ℝ} (hr : 0 ≤ r) (hz : z = r) :
    (∑ i ∈ s, f i) * z = ∑ i ∈ s, f i * z := by
  classical
  induction s using Finset.induction_on with
  | empty => simp
  | insert a s ha ih =>
    rw [Finset.sum_insert ha, Finset.sum_insert ha, ← ih]
    subst hz
    exact EReal.right_distrib_of_nonneg_of_ne_top (EReal.coe_nonneg.mpr hr) (EReal.coe_ne_top r) _ _

/-- Weighting every hidden activation weights the expert's output. -/
theorem term_eq (hl : ∀ b t e, ∃ r : ℝ, lg X B K b t e = r) (b : Fin 2) (t : Fin 2048) (d : Fin 1024) (e : Fin 8) :
    term X B K W1 W2 b t d e = ∑ f : Fin 1024, hidden X W1 b t e f * cmb (lg X B K b t) e * W2 (ix3 e f d) := by
  obtain ⟨r, hr, hz⟩ := cmb_real (lg X B K b t) (hl b t) e
  unfold term
  rw [sum_mul_real _ _ hr hz]
  refine Finset.sum_congr rfl fun f _ => ?_
  rw [mul_assoc, mul_comm]

end Cert.Spec

end
-- ==== Proof.Moe.Arrays.lean ====
/- What the kernel's four result arrays hold after the launch: the weighted sum of the experts row by row, and the three
   statistics of each token block. -/
module

public import proofs.«01_k».proof.Proof.Moe.Reads
public import proofs.«01_k».proof.Proof.Moe.Spec

@[expose] public section

set_option maxRecDepth 16384

noncomputable section

namespace Cert.KernelIdeal.Moe

open Cert.KernelIdeal.Gen Cert.Top2 Cert.Spec
open Idealize.ShloMosaic Idealize.ShloMosaic.TcCoe Idealize.SL.Sem
open Idealize.ShloMosaic.Pipeline (Dat)

variable (m : (ℓ : Loc nD τ sig) → Buf (Elt Ideal) ℓ)

/-- The arguments as launched. -/
abbrev aX (c : Dev nD) : FVec Ideal S2x2048x1024 .f32 := m ((c : Thread nD τ).loc main_arg0)
@[inherit_doc aX] abbrev aB (c : Dev nD) : FVec Ideal S8 .f32 := m ((c : Thread nD τ).loc main_arg1)
@[inherit_doc aX] abbrev aK (c : Dev nD) : FVec Ideal S8x1024 .f32 := m ((c : Thread nD τ).loc main_arg3)
@[inherit_doc aX] abbrev aW1 (c : Dev nD) : FVec Ideal S8x1024x1024 .f32 := m ((c : Thread nD τ).loc main_arg4)
@[inherit_doc aX] abbrev aW2 (c : Dev nD) : FVec Ideal S8x1024x1024 .f32 := m ((c : Thread nD τ).loc main_arg5)

/-- The logits of a block's row are those of the token it is. -/
theorem lgB_eq (c : Dev nD) (t : Fin cfg0.N) (r : Fin 1024) :
    lgB (iblk m c 0 t) (iblk m c 1 t) (iblk m c 2 t) r = lg (aX m c) (aB m c) (aK m c) (bOf (blkOf t)) (tOf (blkOf t) r) := by
  funext e
  unfold lgB lg
  refine congrArg₂ (· + ·) (Finset.sum_congr rfl fun d _ => ?_) (iblk2_at m c t e)
  rw [mul_comm]
  exact congrArg₂ (· * ·) (iblk0_at m c t r d) (iblk1_at m c t e d)

theorem pay5_at (x : FVec Ideal S1024x1024 .f32) (r d : Fin 1024) : k0_pay5 (F := Ideal) x (ix2 r d) = x (ix2 r d) := by
  pointwise [k0_pay5, k0_pay4]

/-- Every logit is a real number. -/
def RealLogits (c : Dev nD) : Prop := ∀ b t e, ∃ r : ℝ, lg (aX m c) (aB m c) (aK m c) b t e = r

variable {m}

theorem RealLogits.ne_bot {c : Dev nD} (h : RealLogits m c) (t : Fin cfg0.N) (r : Fin 1024) :
    lgB (iblk m c 0 t) (iblk m c 1 t) (iblk m c 2 t) r (second (lgB (iblk m c 0 t) (iblk m c 1 t) (iblk m c 2 t) r)) ≠ ⊥ := by
  rw [lgB_eq]
  obtain ⟨x, hx⟩ := h (bOf (blkOf t)) (tOf (blkOf t) r) (second (lg (aX m c) (aB m c) (aK m c) (bOf (blkOf t)) (tOf (blkOf t) r)))
  rw [hx]
  exact EReal.coe_ne_bot x

theorem blkOf_eq {n : ℕ} {h : n < cfg0.N} {i p : Fin 4} (hn : n = 4 * i.val + p.val) : blkOf ⟨n, h⟩ = i :=
  Fin.ext (by show n / 4 = i.val; omega)
theorem pairOf_eq {n : ℕ} {h : n < cfg0.N} {i p : Fin 4} (hn : n = 4 * i.val + p.val) : pairOf ⟨n, h⟩ = p :=
  Fin.ext (by show n % 4 = p.val; omega)

/-- What one expert of a point's pair adds to a row of the output block. -/
theorem addE_eq {c : Dev nD} (hl : RealLogits m c) (n : ℕ) (h : n < cfg0.N) (i p : Fin 4) (hn : n = 4 * i.val + p.val) (q : Fin 2) (r d : Fin 1024) :
    addE (xbAt m c n h) (iblk m c 3 ⟨n, h⟩) (cbAt m c n h) (iblk m c 4 ⟨n, h⟩) p q r d
      = term (aX m c) (aB m c) (aK m c) (aW1 m c) (aW2 m c) (bOf i) (tOf i r) d (ex p q) := by
  have hs : blkOf (sp n h) = i := Fin.ext (by show (n - n % 4) / 4 = i.val; omega)
  rw [term_eq _ _ _ _ _ hl]
  unfold addE hidE Spec.hidden
  refine Finset.sum_congr rfl fun f _ => congrArg₂ (· * ·) (congrArg₂ (· * ·) (congrArg (max · 0) (Finset.sum_congr rfl fun j _ => ?_)) ?_) ?_
  · refine congrArg₂ (· * ·) ?_ ?_
    · exact (pay5_at _ r j).trans ((iblk0_at m c (sp n h) r j).trans (by rw [hs]))
    · exact (iblk3_at m c ⟨n, h⟩ q j f).trans (by rw [pairOf_eq hn])
  · exact (cmbOf_at _ _ _ (hl.ne_bot (sp n h)) r (ex p q)).trans (by rw [lgB_eq, hs])
  · exact (iblk4_at m c ⟨n, h⟩ q f d).trans (by rw [pairOf_eq hn])

theorem coord_pair : ∀ t : Fin cfg0.N, (grid0.coords t 1).val = t.val % 4 :=
  (by decide +kernel : ∀ t : Fin grid0.N, (grid0.coords t 1).val = t.val % 4)

/-- What a point's pair of experts adds to a row of the output block. -/
theorem prod_point {c : Dev nD} (hl : RealLogits m c) (n : ℕ) (h : n < cfg0.N) (i p : Fin 4) (hn : n = 4 * i.val + p.val) (r d : Fin 1024) :
    k0_pay2 (F := Ideal) (hidAt m c n h) (iblk m c 4 ⟨n, h⟩) (ix2 r d)
      = term (aX m c) (aB m c) (aK m c) (aW1 m c) (aW2 m c) (bOf i) (tOf i r) d (ex p 0)
        + term (aX m c) (aB m c) (aK m c) (aW1 m c) (aW2 m c) (bOf i) (tOf i r) d (ex p 1) := by
  refine (prod_at _ _ _ _ p ((coord_pair ⟨n, h⟩).trans (by show n % 4 = p.val; omega)) _ r d).trans ?_
  exact congrArg₂ (· + ·) (addE_eq hl n h i p hn 0 r d) (addE_eq hl n h i p hn 1 r d)

/-- A token block's output block after its last point: the weighted sum of all the experts. -/
theorem outAt_last {c : Dev nD} (hl : RealLogits m c) (i : Fin 4) (h : 4 * i.val + 3 < cfg0.N) (r d : Fin 1024) :
    outAt m c (4 * i.val + 3) h (ix2 r d) = out (aX m c) (aB m c) (aK m c) (aW1 m c) (aW2 m c) (bOf i) (tOf i r) d := by
  have step : ∀ (n : ℕ) (h' : n + 1 < cfg0.N), ¬(n + 1) % 4 = 0 → outAt m c (n + 1) h' (ix2 r d)
      = outAt m c n (by omega) (ix2 r d) + k0_pay2 (F := Ideal) (hidAt m c (n + 1) h') (iblk m c 4 ⟨n + 1, h'⟩) (ix2 r d) := fun n h' h0 =>
    (congrFun (outAt_next m c (n + 1) h' h0) _).trans (pay3_at _ _ _ r d)
  rw [step (4 * i.val + 2) h (by omega), step (4 * i.val + 1) (by omega) (by omega), step (4 * i.val) (by omega) (by omega),
    outAt_first m c (4 * i.val) (by omega) (by omega),
    prod_point hl (4 * i.val) (by omega) i 0 rfl r d, prod_point hl (4 * i.val + 1) (by omega) i 1 rfl r d,
    prod_point hl (4 * i.val + 2) (by omega) i 2 rfl r d, prod_point hl (4 * i.val + 3) h i 3 rfl r d]
  unfold out
  rw [Fin.sum_univ_eight]
  simp only [add_assoc]
  rfl

/-- The output array: row `n` is token `n`. -/
theorem final5 {c : Dev nD} (hl : RealLogits m c) : (dats m 0 c).arrAt 5 cfg0.N
    = shapeCast S4096x1024 (fun y : S2x2048x1024.Idx => out (aX m c) (aB m c) (aK m c) (aW1 m c) (aW2 m c) (y 0) (y 1) (y 2)) shapeCasts_S2x2048x1024_S4096x1024 := by
  refine (dats m 0 c).arrAt_eq_of_covers 5 _ (by decide +kernel) fun t hf y => ?_
  have h3 := (flush0_5 t).mp hf
  blk_simp
  rw [after0_5]
  have hb : ∀ (n : ℕ) (h : n < cfg0.N) (i : Fin 4), n = 4 * i.val + 3 → ∀ r d : Fin 1024,
      outAt m c n h (ix2 r d) = out (aX m c) (aB m c) (aK m c) (aW1 m c) (aW2 m c) (bOf i) (tOf i r) d := by
    intro n h i hn r d; subst hn; exact outAt_last hl i h r d
  have key : ∀ r d : Fin 1024, outAt m c t.val t.isLt (ix2 r d)
      = shapeCast S4096x1024 (fun y : S2x2048x1024.Idx => out (aX m c) (aB m c) (aK m c) (aW1 m c) (aW2 m c) (y 0) (y 1) (y 2))
          shapeCasts_S2x2048x1024_S4096x1024 ((win0_5.blk t).view.emb (ix2 r d)) := by
    intro r d
    refine (hb t.val t.isLt (blkOf t) (by show t.val = 4 * (t.val / 4) + 3; omega) r d).trans ?_
    refine (tokens_at (fun y : S2x2048x1024.Idx => out (aX m c) (aB m c) (aK m c) (aW1 m c) (aW2 m c) (y 0) (y 1) (y 2)) (blkOf t) r d).symm.trans ?_
    blk_ext [idx_val t]
  have hy : y = (ix2 (y 0) (y 1) : S1024x1024.Idx) := Shape.idx_ext₂ rfl rfl
  rw [hy]
  exact key (y 0) (y 1)

/-- Where a statistic's block sits in its array. -/
theorem rows {c : Dev nD} (t : Fin cfg0.N) (g : (Fin 8 → EReal) → EReal) :
    ∑ r, g (lgB (iblk m c 0 (sp t.val t.isLt)) (iblk m c 1 (sp t.val t.isLt)) (iblk m c 2 (sp t.val t.isLt)) r)
      = ∑ r : Fin 1024, g (lg (aX m c) (aB m c) (aK m c) (bOf (blkOf t)) (tOf (blkOf t) r)) := by
  have hs : blkOf (sp t.val t.isLt) = blkOf t := Fin.ext (by show (t.val - t.val % 4) / 4 = t.val / 4; omega)
  simp only [lgB_eq, hs]

/-- An index of a statistic's block is its expert. -/
theorem idx3 (y : S1x1x8.Idx) : y = ix3 0 0 (y 2) := by
  funext a
  match a with
  | 0 => exact Subsingleton.elim (α := Fin 1) _ _
  | 1 => exact Subsingleton.elim (α := Fin 1) _ _
  | 2 => rfl

variable (m) in
/-- The probabilities, the selections and the squares of each token block, summed. -/
def rowP (c : Dev nD) (y : S4x1x8.Idx) : EReal := ∑ r : Fin 1024, prob (lg (aX m c) (aB m c) (aK m c) (bOf (y 0)) (tOf (y 0) r)) (y 2)
variable (m) in
@[inherit_doc rowP] def rowC (c : Dev nD) (y : S4x1x8.Idx) : EReal := ∑ r : Fin 1024, cnt (lg (aX m c) (aB m c) (aK m c) (bOf (y 0)) (tOf (y 0) r)) (y 2)
variable (m) in
@[inherit_doc rowP] def rowS (c : Dev nD) (y : S4x1x8.Idx) : EReal := ∑ e : Fin 8, ∑ r : Fin 1024, lg (aX m c) (aB m c) (aK m c) (bOf (y 0)) (tOf (y 0) r) e * lg (aX m c) (aB m c) (aK m c) (bOf (y 0)) (tOf (y 0) r) e

/-- The statistics' arrays: row `i` is token block `i`'s. -/
theorem final6 {c : Dev nD} : (dats m 0 c).arrAt 6 cfg0.N
    = rowP m c := by
  refine (dats m 0 c).arrAt_eq_of_covers 6 _ (by decide +kernel) fun t hf y => ?_
  blk_simp
  rw [after0_6]
  have key : ∀ e : Fin 8, psumOf (F := Ideal) (iblk m c 0 (sp t.val t.isLt)) (iblk m c 1 (sp t.val t.isLt)) (iblk m c 2 (sp t.val t.isLt)) (ix3 0 0 e)
      = rowP m c ((win0_6.blk t).view.emb (ix3 0 0 e)) := by
    intro e
    refine (psumOf_at _ _ _ e).trans ((rows t (prob · e)).trans ?_)
    refine Eq.trans (b := rowP m c (ix3 (blkOf t) 0 e)) rfl ?_
    blk_ext [idx_val t]
  rw [idx3 y]
  exact key (y 2)

@[inherit_doc final6] theorem final7 {c : Dev nD} (hl : RealLogits m c) : (dats m 0 c).arrAt 7 cfg0.N
    = rowC m c := by
  refine (dats m 0 c).arrAt_eq_of_covers 7 _ (by decide +kernel) fun t hf y => ?_
  blk_simp
  rw [after0_7]
  have key : ∀ e : Fin 8, cntOf (F := Ideal) (iblk m c 0 (sp t.val t.isLt)) (iblk m c 1 (sp t.val t.isLt)) (iblk m c 2 (sp t.val t.isLt)) (ix3 0 0 e)
      = rowC m c ((win0_7.blk t).view.emb (ix3 0 0 e)) := by
    intro e
    refine (cntOf_at _ _ _ (hl.ne_bot _) e).trans ((rows t (cnt · e)).trans ?_)
    refine Eq.trans (b := rowC m c (ix3 (blkOf t) 0 e)) rfl ?_
    blk_ext [idx_val t]
  rw [idx3 y]
  exact key (y 2)

@[inherit_doc final6] theorem final8 {c : Dev nD} : (dats m 0 c).arrAt 8 cfg0.N
    = rowS m c := by
  refine (dats m 0 c).arrAt_eq_of_covers 8 _ (by decide +kernel) fun t hf y => ?_
  blk_simp
  rw [after0_8]
  have key : ∀ e : Fin 8, sqOf (F := Ideal) (iblk m c 0 (sp t.val t.isLt)) (iblk m c 1 (sp t.val t.isLt)) (iblk m c 2 (sp t.val t.isLt)) (ix3 0 0 e)
      = rowS m c ((win0_8.blk t).view.emb (ix3 0 0 e)) := by
    intro e
    refine (sqOf_at _ _ _ e).trans ((Finset.sum_congr rfl fun e _ => rows t fun l => l e * l e).trans ?_)
    refine Eq.trans (b := rowS m c (ix3 (blkOf t) 0 e)) rfl ?_
    blk_ext [idx_val t]
  rw [idx3 y]
  exact key (y 2)

end Cert.KernelIdeal.Moe

end
-- ==== Proof.Moe.Sums.lean ====
/- Two reductions read as sums: over the first two axes of three, and over the first three of four. -/
module

public import Idealize.ShloMosaic.Lib.Pointwise
public import Idealize.ShloMosaic.Lib.IdealHost

@[expose] public section

set_option maxRecDepth 16384

noncomputable section

namespace Cert.Sums

open Idealize.ShloMosaic

theorem fst_two {n0 n1 n2 : ℕ} (h : (⟨3, ![n0, n1, n2]⟩ : Shape).ReducesTo [0, 1] ⟨1, ![n2]⟩) (x : FVec Ideal ⟨3, ![n0, n1, n2]⟩ .f32)
    (hu : 0 < (⟨0, ![]⟩ : Shape).numel) (e : Fin n2) :
    Host.reduceAdd (F := Ideal) x (constant ⟨0, ![]⟩ .f32 0x00000000#32) h hu (ix1 e) = ∑ a : Fin n0, ∑ b : Fin n1, x (ix3 a b e) := by
  rw [ValueIdx.hostReduceAdd_apply]
  unfold Ideal.hostReduceAdd
  refine (congrArg₂ (· + ·) Ideal.ofBits_zero_f32 ?_).trans (zero_add _)
  refine (Finset.sum_filter_eq_sum_of_fiber _ (fun k : Fin n0 × Fin n1 => ix3 k.1 k.2 e)
    (fun _ _ e => Prod.ext (congrFun e 0) (congrFun e 1)) (fun i => ?_) x).trans (Fintype.sum_prod_type _)
  constructor
  · intro he
    refine ⟨(i 0, i 1), ?_⟩
    funext a; apply Fin.ext
    match a with
    | ⟨0, _⟩ => rfl
    | ⟨1, _⟩ => rfl
    | ⟨2, _⟩ => exact (congrArg Fin.val (congrFun he 0)).symm
  · rintro ⟨k, rfl⟩
    funext b
    match b with
    | ⟨0, _⟩ => rfl

theorem fst_three {n0 n1 n2 n3 : ℕ} (h : (⟨4, ![n0, n1, n2, n3]⟩ : Shape).ReducesTo [0, 1, 2] ⟨1, ![n3]⟩) (x : FVec Ideal ⟨4, ![n0, n1, n2, n3]⟩ .f32)
    (hu : 0 < (⟨0, ![]⟩ : Shape).numel) (e : Fin n3) :
    Host.reduceAdd (F := Ideal) x (constant ⟨0, ![]⟩ .f32 0x00000000#32) h hu (ix1 e) = ∑ a : Fin n0, ∑ b : Fin n1, ∑ c : Fin n2, x (ix4 a b c e) := by
  rw [ValueIdx.hostReduceAdd_apply]
  unfold Ideal.hostReduceAdd
  refine (congrArg₂ (· + ·) Ideal.ofBits_zero_f32 ?_).trans (zero_add _)
  refine (Finset.sum_filter_eq_sum_of_fiber _ (fun k : Fin n0 × Fin n1 × Fin n2 => ix4 k.1 k.2.1 k.2.2 e)
    (fun _ _ e => Prod.ext (congrFun e 0) (Prod.ext (congrFun e 1) (congrFun e 2))) (fun i => ?_) x).trans ?_
  · constructor
    · intro he
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun he 0)).symm
    · rintro ⟨k, rfl⟩
      funext b
      match b with
      | ⟨0, _⟩ => rfl
  · simp only [Fintype.sum_prod_type]

end Cert.Sums

end
-- ==== Proof.Moe.Tail.lean ====
/- What the program does with the launch's four arrays: the routing penalties of the three statistics, and the output
   array reshaped. -/
module

public import proofs.«01_k».proof.Proof.Moe.Arrays
public import proofs.«01_k».proof.Proof.Moe.Sums

@[expose] public section

set_option maxRecDepth 16384

noncomputable section

namespace Cert.KernelIdeal.Moe

open Cert.KernelIdeal.Gen Cert.Top2 Cert.Spec
open Idealize.ShloMosaic Idealize.ShloMosaic.TcCoe Idealize.SL.Sem
open Idealize.ShloMosaic.Pipeline (Dat)

/-- The variance of eight numbers, as both programs take it. -/
def var8 (C : FVec Ideal S8 .f32) : FVec Ideal S_ .f32 :=
  let d := subf C (broadcastInDim S8 ![0] bcast_S1_S8_0 (Host.divf (broadcastInDim S1 ![] bcast_S_S1 (Host.reduceAdd C (constant S_ .f32 0x00000000#32) reducesTo_S8_S_d0 h_S_)) (broadcastInDim S1 ![] bcast_S_S1 (constant S_ .f32 0x41000000#32))))
  let n := subf (constant S_ .f32 0x41000000#32) (sitofp .f32 (constantI S_ 32 0#32))
  select (cmpf .ogt n (constant S_ .f32 0x00000000#32)) (Host.divf (Host.reduceAdd (mulf d d) (constant S_ .f32 0x00000000#32) reducesTo_S8_S_d0 h_S_) n) (constant S_ .f32 0x7FC00000#32)

/-- The first two penalties, of the summed probabilities and the numbers of selections. -/
def penalty (P C : FVec Ideal S8 .f32) : FVec Ideal S_ .f32 :=
  let lf := Host.divf C (broadcastInDim S8 ![] bcast_S_S8 (constant S_ .f32 0x46000000#32))
  addf (mulf (constant S_ .f32 0x3DA3D70A#32) (Host.reduceAdd (mulf (Host.divf P (broadcastInDim S8 ![] bcast_S_S8 (constant S_ .f32 0x45800000#32))) lf) (constant S_ .f32 0x00000000#32) reducesTo_S8_S_d0 h_S_))
    (mulf (constant S_ .f32 0x3C23D70A#32) (var8 lf))

/-- The program's loss, of the three statistics' arrays. -/
def lossK (p q s : FVec Ideal S4x1x8 .f32) : FVec Ideal S_ .f32 :=
  addf (penalty (Host.reduceAdd p (constant S_ .f32 0x00000000#32) reducesTo_S4x1x8_S8_d0_1 h_S_) (Host.reduceAdd q (constant S_ .f32 0x00000000#32) reducesTo_S4x1x8_S8_d0_1 h_S_))
    (Host.divf (mulf (constant S_ .f32 0x3A83126F#32) (Host.reduceAdd (shapeCast S4 (extractStridedSlice S4x1x1 ![0, 0, 0] s slices_S4x1x8_S4x1x1_0_0_0) shapeCasts_S4x1x1_S4) (constant S_ .f32 0x00000000#32) reducesTo_S4_S_d0 h_S_)) (constant S_ .f32 0x47000000#32))

set_option maxHeartbeats 1000000 in
theorem after_loss (σ : Valuation τ sig (Elt Ideal)) :
    StableHlo.after ([hostOps1, hostOps1_1, hostOps1_2] : List (List (HloOp τ sig (Elt Ideal)))).flatten σ (Proc.devRef .tc main_v21)
      = lossK (σ (Proc.devRef .tc main_v3_1)) (σ (Proc.devRef .tc main_v3_2)) (σ (Proc.devRef .tc main_v3_3)) := rfl

theorem after_out (σ : Valuation τ sig (Elt Ideal)) :
    StableHlo.after ([hostOps1, hostOps1_1, hostOps1_2] : List (List (HloOp τ sig (Elt Ideal)))).flatten σ (Proc.devRef .tc main_v22)
      = shapeCast S2x2048x1024 (σ (Proc.devRef .tc main_v3_0)) shapeCasts_S4096x1024_S2x2048x1024 := rfl

variable {m : (ℓ : Loc nD τ sig) → Buf (Elt Ideal) ℓ}

theorem arr_inj : Function.Injective (Pipeline.arrRef spec0) := by decide

theorem W_loss {c : Dev nD} (hl : RealLogits m c) :
    Pipeline.afterTail₀ cfgs (dats m) 0 (V0 m) [hostOps1, hostOps1_1, hostOps1_2] c main_v21 = lossK (rowP m c) (rowC m c) (rowS m c) := by
  refine (after_loss _).trans ?_
  have h6 := (Pipeline.withArrays_arr spec0 arr_inj c (V0 m c) (fun w => (dats m 0 c).arrAt w cfg0.N) 6).trans final6
  have h7 := (Pipeline.withArrays_arr spec0 arr_inj c (V0 m c) (fun w => (dats m 0 c).arrAt w cfg0.N) 7).trans (final7 hl)
  have h8 := (Pipeline.withArrays_arr spec0 arr_inj c (V0 m c) (fun w => (dats m 0 c).arrAt w cfg0.N) 8).trans final8
  rw [← h6, ← h7, ← h8]

theorem W_out {c : Dev nD} (hl : RealLogits m c) :
    Pipeline.afterTail₀ cfgs (dats m) 0 (V0 m) [hostOps1, hostOps1_1, hostOps1_2] c main_v22
      = fun y : S2x2048x1024.Idx => out (aX m c) (aB m c) (aK m c) (aW1 m c) (aW2 m c) (y 0) (y 1) (y 2) := by
  refine (after_out _).trans ?_
  have h5 := (Pipeline.withArrays_arr spec0 arr_inj c (V0 m c) (fun w => (dats m 0 c).arrAt w cfg0.N) 5).trans (final5 hl)
  refine (congrArg (shapeCast S2x2048x1024 · shapeCasts_S4096x1024_S2x2048x1024) h5).trans ?_
  funext y
  pointwise

/-- The token blocks cover the tokens. -/
theorem sum_blocks (g : Fin 2 → Fin 2048 → EReal) : ∑ i : Fin 4, ∑ r : Fin 1024, g (bOf i) (tOf i r) = ∑ b, ∑ t, g b t := by
  have half : ∀ b : Fin 2, ∑ t : Fin 2048, g b t = ∑ r : Fin 1024, g b ⟨0 * 1024 + r.val, by omega⟩ + ∑ r : Fin 1024, g b ⟨1 * 1024 + r.val, by omega⟩ := fun b => by
    rw [Fin.sum_univ_add (a := 1024) (b := 1024) (g b)]
    refine congrArg₂ (· + ·) (Finset.sum_congr rfl fun r _ => congrArg (g b) (Fin.ext ?_)) (Finset.sum_congr rfl fun r _ => congrArg (g b) (Fin.ext ?_))
    · show r.val = 0 * 1024 + r.val; omega
    · show 1024 + r.val = 1 * 1024 + r.val; omega
  rw [Fin.sum_univ_four, Fin.sum_univ_two, half 0, half 1, ← add_assoc]
  rfl

/-- The loss both programs compute. -/
def lossOf (X : FVec Ideal S2x2048x1024 .f32) (B : FVec Ideal S8 .f32) (K : FVec Ideal S8x1024 .f32) : FVec Ideal S_ .f32 :=
  addf (penalty (fun y => probSum X B K (y 0)) (fun y => cntSum X B K (y 0)))
    (mulf (constant S_ .f32 0x3A83126F#32) (Host.divf (fun _ => sqSum X B K) (constant S_ .f32 0x47000000#32)))

theorem thirty_ne : Ideal.ofBits .f32 0x47000000#32 ≠ 0 := by
  simp [Ideal.ofBits, Ideal.ieee]

/-- The statistics' arrays make that loss. -/
theorem lossK_eq (c : Dev nD) : lossK (rowP m c) (rowC m c) (rowS m c) = lossOf (aX m c) (aB m c) (aK m c) := by
  unfold lossK lossOf
  congr 1
  · congr 1
    · funext y
      have hy : y = ix1 (y 0) := by funext a; match a with | 0 => rfl
      rw [hy]
      refine (Sums.fst_two _ _ _ _).trans ?_
      simp only [Fin.sum_univ_one]
      exact sum_blocks fun b t => prob (lg (aX m c) (aB m c) (aK m c) b t) (y 0)
    · funext y
      have hy : y = ix1 (y 0) := by funext a; match a with | 0 => rfl
      rw [hy]
      refine (Sums.fst_two _ _ _ _).trans ?_
      simp only [Fin.sum_univ_one]
      exact sum_blocks fun b t => cnt (lg (aX m c) (aB m c) (aK m c) b t) (y 0)
  · funext y
    pointwise
    have hS : ∑ i : Fin 4, rowS m c (ix3 i 0 0) = sqSum (aX m c) (aB m c) (aK m c) := by
      unfold sqSum
      rw [← sum_blocks fun b t => ∑ e : Fin 8, lg (aX m c) (aB m c) (aK m c) b t e * lg (aX m c) (aB m c) (aK m c) b t e]
      exact Finset.sum_congr rfl fun i _ => Finset.sum_comm
    rw [hS]
    unfold Ideal.div
    rw [if_neg thirty_ne, if_neg thirty_ne, mul_assoc]

end Cert.KernelIdeal.Moe

end
-- ==== Proof.Moe.RefParts.lean ====
/- The reference's routing, entry by entry: its logits, the two greatest of a token's, the softmax over all eight and
   over those two, the selections, and the combine weights. -/
module

public import proofs.«01_k».proof.Proof.Gen.ReferenceIdeal
public import proofs.«01_k».proof.Proof.Moe.Spec
public import Idealize.ShloMosaic.Lib.Pointwise
public import Idealize.ShloMosaic.Lib.IdealHost

@[expose] public section

set_option maxRecDepth 16384

noncomputable section

namespace Cert.ReferenceIdeal.Moe

open Cert.ReferenceIdeal Cert.ReferenceIdeal.Gen Cert.Top2 Cert.Spec
open Idealize.ShloMosaic

/-- The logits of every token. -/
def lgT (X : FVec Ideal S2x2048x1024 .f32) (B : FVec Ideal S8 .f32) (K : FVec Ideal S8x1024 .f32) : FVec Ideal S2x2048x8 .f32 :=
  addf (Host.dotGeneral dot_S2x2048x1024_S8x1024_S2x2048x8_2_1_01_0_n_n none X K) (broadcastInDim S2x2048x8 ![0, 1, 2] bcast_S1x1x8_S2x2048x8_0_1_2 (broadcastInDim S1x1x8 ![2] bcast_S8_S1x1x8_2 B))

theorem lgT_at (X : FVec Ideal S2x2048x1024 .f32) (B : FVec Ideal S8 .f32) (K : FVec Ideal S8x1024 .f32) (b : Fin 2) (t : Fin 2048) (e : Fin 8) :
    lgT X B K (ix3 b t e) = lg X B K b t e := by
  unfold lg
  pointwise [lgT]

/-- A token's row of an array of logits. -/
abbrev row (L : FVec Ideal S2x2048x8 .f32) (b : Fin 2) (t : Fin 2048) (e : Fin 8) : EReal := L (ix3 b t e)

/-- The exponentials the softmax over the eight takes, -/
def exp8 (L : FVec Ideal S2x2048x8 .f32) : FVec Ideal S2x2048x8 .f32 :=
  Host.exp (subf L (broadcastInDim S2x2048x8 ![0, 1, 2] bcast_S2x2048x1_S2x2048x8_0_1_2 (broadcastInDim S2x2048x1 ![0, 1] bcast_S2x2048_S2x2048x1_0_1 (maximumf (broadcastInDim S2x2048 ![] bcast_S_S2x2048 (constant S_ .f32 0xFF800000#32)) (Host.reduce FloatOps.maximumf L (constant S_ .f32 0xFF800000#32) reducesTo_S2x2048x8_S2x2048_d2 h_S_)))))
/-- and that softmax. -/
def soft8 (L : FVec Ideal S2x2048x8 .f32) : FVec Ideal S2x2048x8 .f32 :=
  Host.divf (exp8 L) (broadcastInDim S2x2048x8 ![0, 1, 2] bcast_S2x2048x1_S2x2048x8_0_1_2 (broadcastInDim S2x2048x1 ![0, 1] bcast_S2x2048_S2x2048x1_0_1 (Host.reduceAdd (exp8 L) (constant S_ .f32 0x00000000#32) reducesTo_S2x2048x8_S2x2048_d2 h_S_)))

/-- The word of minus infinity. -/
theorem ofBits_neg_inf : Ideal.ofBits .f32 0xFF800000#32 = ⊥ := by simp [Ideal.ofBits, Ideal.ieee]

theorem exp8_at (L : FVec Ideal S2x2048x8 .f32) (b : Fin 2) (t : Fin 2048) (e : Fin 8) :
    exp8 L (ix3 b t e) = Ideal.exp (L (ix3 b t e) - row L b t (first (row L b t))) := by
  rw [← (is_sorted (row L b t)).fold_fst]
  pointwise [exp8]
  simp only [ofBits_neg_inf, bot_le, sup_of_le_right, max_eq_right]

theorem soft8_at (L : FVec Ideal S2x2048x8 .f32) (b : Fin 2) (t : Fin 2048) (e : Fin 8) :
    soft8 L (ix3 b t e) = prob (row L b t) e := by
  unfold prob
  pointwise [soft8]
  simp only [exp8_at]

/-- The two greatest logits of every token, and their positions. -/
def top (L : FVec Ideal S2x2048x8 .f32) : FVec Ideal S2x2048x2 .f32 × IVec S2x2048x2 32 :=
  Host.topK S2x2048x2 2 (FloatOps.cmpfTotal .gt) L sliceFits_S2x2048x8_S2x2048x2

/-- The position at place `k`. -/
def at2 (l : Fin 8 → EReal) (k : Fin 2) : Fin 8 := sortedFrom (gtB l) ⟨k.val, by omega⟩

theorem gt_bit (u v : EReal) : ((FloatOps.cmpfTotal (F := Ideal) (φ := .f32) .gt u v : BitVec 1) == 1#1) = decide (v < u) := by
  show (BitVec.ofBool (decide (v < u)) == 1#1) = _
  cases decide (v < u) <;> rfl

/-- The row's sort, as the host's sort along the last axis runs it. -/
theorem sorted_row (L : FVec Ideal S2x2048x8 .f32) (b : Fin 2) (t : Fin 2048) (k : Fin 2) (j : S2x2048x8.Idx) (hj : j = ix3 b t ⟨k.val, by omega⟩) :
    (sortedFrom (fun q q' : Fin 8 => FloatOps.cmpfTotal (F := Ideal) (φ := .f32) .gt (L (j.along 2 q)) (L (j.along 2 q')) == 1#1) (j 2) : Fin 8)
      = at2 (row L b t) k := by
  subst hj
  have ha : ∀ q : Fin 8, (ix3 b t (⟨k.val, by omega⟩ : Fin 8) : S2x2048x8.Idx).along 2 q = ix3 b t q := fun q => by
    funext a
    match a with
    | 0 => rfl
    | 1 => rfl
    | 2 => rfl
  simp only [ha, gt_bit]
  rfl

/-- The entry of the operand that a place of the result is taken from. -/
theorem slice_at {α : Type} (x : S2x2048x8.Idx → α) (b : Fin 2) (t : Fin 2048) (k : Fin 2) :
    extractStridedSlice S2x2048x2 (fun _ => 0) x sliceFits_S2x2048x8_S2x2048x2 (ix3 b t k) = x (ix3 b t ⟨k.val, by omega⟩) := by
  unfold extractStridedSlice
  refine congrArg x (funext fun a => Fin.ext ?_)
  match a with
  | 0 => exact Nat.zero_add _
  | 1 => exact Nat.zero_add _
  | 2 => exact Nat.zero_add _

theorem top_pos (L : FVec Ideal S2x2048x8 .f32) (b : Fin 2) (t : Fin 2048) (k : Fin 2) :
    (top L).2 (ix3 b t k) = BitVec.ofNat 32 (at2 (row L b t) k).val := by
  unfold top Host.topK
  dsimp only
  refine (slice_at _ b t k).trans ?_
  rw [← sorted_row L b t k _ rfl]
  rfl

theorem top_val (L : FVec Ideal S2x2048x8 .f32) (b : Fin 2) (t : Fin 2048) (k : Fin 2) :
    (top L).1 (ix3 b t k) = row L b t (at2 (row L b t) k) := by
  unfold top Host.topK
  dsimp only
  refine (slice_at _ b t k).trans ?_
  rw [← sorted_row L b t k _ rfl]
  show L _ = L _
  refine congrArg L (funext fun a => ?_)
  match a with
  | 0 => rfl
  | 1 => rfl
  | 2 => rfl

/-- The exponentials the softmax over two takes, -/
def exp2 (V : FVec Ideal S2x2048x2 .f32) : FVec Ideal S2x2048x2 .f32 :=
  Host.exp (subf V (broadcastInDim S2x2048x2 ![0, 1, 2] bcast_S2x2048x1_S2x2048x2_0_1_2 (broadcastInDim S2x2048x1 ![0, 1] bcast_S2x2048_S2x2048x1_0_1 (maximumf (broadcastInDim S2x2048 ![] bcast_S_S2x2048 (constant S_ .f32 0xFF800000#32)) (Host.reduce FloatOps.maximumf V (constant S_ .f32 0xFF800000#32) reducesTo_S2x2048x2_S2x2048_d2 h_S_)))))
/-- and that softmax. -/
def soft2 (V : FVec Ideal S2x2048x2 .f32) : FVec Ideal S2x2048x2 .f32 :=
  Host.divf (exp2 V) (broadcastInDim S2x2048x2 ![0, 1, 2] bcast_S2x2048x1_S2x2048x2_0_1_2 (broadcastInDim S2x2048x1 ![0, 1] bcast_S2x2048_S2x2048x1_0_1 (Host.reduceAdd (exp2 V) (constant S_ .f32 0x00000000#32) reducesTo_S2x2048x2_S2x2048_d2 h_S_)))

theorem fold_two (f : Fin 2 → EReal) (h : f 1 ≤ f 0) : (Finset.univ : Finset (Fin 2)).fold max (⊥ : EReal) f = f 0 := by
  refine le_antisymm ((Finset.fold_max_le _).mpr ⟨bot_le, fun e _ => ?_⟩) ((Finset.le_fold_max _).mpr (.inr ⟨0, Finset.mem_univ _, le_rfl⟩))
  match e with
  | 0 => exact le_rfl
  | 1 => exact h

theorem exp2_at (V : FVec Ideal S2x2048x2 .f32) (b : Fin 2) (t : Fin 2048) (k : Fin 2) (h : V (ix3 b t 1) ≤ V (ix3 b t 0)) :
    exp2 V (ix3 b t k) = Ideal.exp (V (ix3 b t k) - V (ix3 b t 0)) := by
  rw [← fold_two (fun k => V (ix3 b t k)) h]
  pointwise [exp2]
  simp only [ofBits_neg_inf, bot_le, sup_of_le_right, max_eq_right]

/-- Of a greater and a smaller finite entry the softmax is the first one's weight and its complement. -/
theorem soft2_at (V : FVec Ideal S2x2048x2 .f32) (b : Fin 2) (t : Fin 2048) (h : V (ix3 b t 1) ≤ V (ix3 b t 0))
    (h0 : ∃ r : ℝ, V (ix3 b t 0) = r) (h1 : ∃ r : ℝ, V (ix3 b t 1) = r) :
    soft2 V (ix3 b t 0) = wt (V (ix3 b t 0)) (V (ix3 b t 1)) ∧ soft2 V (ix3 b t 1) = 1 - wt (V (ix3 b t 0)) (V (ix3 b t 1)) := by
  obtain ⟨u, hu⟩ := h0
  obtain ⟨v, hv⟩ := h1
  obtain ⟨r, -, -, hw, hw'⟩ := wt_real u v
  have hz : Ideal.exp ((u : EReal) - u) = 1 := by
    rw [← EReal.coe_sub, sub_self]
    show ((Real.exp 0 : ℝ) : EReal) = 1
    rw [Real.exp_zero]; rfl
  have key : ∀ k : Fin 2, soft2 V (ix3 b t k) = Ideal.div (Ideal.exp (V (ix3 b t k) - V (ix3 b t 0))) (∑ j : Fin 2, Ideal.exp (V (ix3 b t j) - V (ix3 b t 0))) := fun k => by
    pointwise [soft2]
    simp only [exp2_at V b t _ h]
  rw [key 0, key 1, Fin.sum_univ_two, hu, hv, hz]
  refine ⟨rfl, ?_⟩
  rw [hw', hw]
  push_cast; rfl

/-- The selections: one at the expert a token chose at place `k`. -/
def ones (I : IVec S2x2048x2 32) : FVec Ideal S2x2048x2x8 .f32 :=
  uitofp .f32 (cmpi .eq (broadcastInDim S2x2048x2x8 ![0, 1, 2, 3] bcast_S2x2048x2x1_S2x2048x2x8_0_1_2_3 (broadcastInDim S2x2048x2x1 ![0, 1, 2] bcast_S2x2048x2_S2x2048x2x1_0_1_2 I)) (broadcastInDim S2x2048x2x8 ![0, 1, 2, 3] bcast_S1x1x1x8_S2x2048x2x8_0_1_2_3 (iotaInDim S1x1x1x8 32 3)))

theorem uitofp_fin (a e : Fin 8) : (FloatOps.uitofp .f32 (IntOp.cmpi .eq (BitVec.ofNat 32 a.val) (BitVec.ofNat 32 e.val)) : Ideal .f32)
    = (if e = a then 1 else 0 : EReal) := by
  have h : IntOp.cmpi .eq (BitVec.ofNat 32 a.val) (BitVec.ofNat 32 e.val) = if e = a then 1#1 else 0#1 := by
    revert e a; decide
  rw [h]
  show (((BitVec.toNat _ : ℕ) : ℝ) : EReal) = _
  split <;> simp

theorem ones_at (I : IVec S2x2048x2 32) (b : Fin 2) (t : Fin 2048) (k : Fin 2) (a e : Fin 8) (h : I (ix3 b t k) = BitVec.ofNat 32 a.val) :
    ones I (ix4 b t k e) = if e = a then 1 else 0 := by
  rw [← uitofp_fin, ← h]
  pointwise [ones]

/-- The combine weights, of the selections' positions and their weights. -/
def comb (I : IVec S2x2048x2 32) (S : FVec Ideal S2x2048x2 .f32) : FVec Ideal S2x2048x8 .f32 :=
  Host.reduceAdd (mulf (ones I) (broadcastInDim S2x2048x2x8 ![0, 1, 2, 3] bcast_S2x2048x2x1_S2x2048x2x8_0_1_2_3 (broadcastInDim S2x2048x2x1 ![0, 1, 2] bcast_S2x2048x2_S2x2048x2x1_0_1_2 S))) (constant S_ .f32 0x00000000#32) reducesTo_S2x2048x2x8_S2x2048x8_d2 h_S_

theorem comb_at (I : IVec S2x2048x2 32) (S : FVec Ideal S2x2048x2 .f32) (b : Fin 2) (t : Fin 2048) (e : Fin 8) :
    comb I S (ix3 b t e) = ∑ k : Fin 2, ones I (ix4 b t k e) * S (ix3 b t k) := by
  pointwise [comb]

/-- Over finite logits they are the combine weights. -/
theorem comb_top (L : FVec Ideal S2x2048x8 .f32) (b : Fin 2) (t : Fin 2048) (hl : ∀ e, ∃ r : ℝ, row L b t e = r) (e : Fin 8) :
    comb (top L).2 (soft2 (top L).1) (ix3 b t e) = cmb (row L b t) e := by
  have hs := is_sorted (row L b t)
  have v0 : (top L).1 (ix3 b t 0) = row L b t (first (row L b t)) := top_val L b t 0
  have v1 : (top L).1 (ix3 b t 1) = row L b t (second (row L b t)) := top_val L b t 1
  obtain ⟨s0, s1⟩ := soft2_at (top L).1 b t (by rw [v0, v1]; exact hs.le_fst _) (by rw [v0]; exact hl _) (by rw [v1]; exact hl _)
  rw [comb_at, Fin.sum_univ_two, ones_at _ _ _ _ _ _ (top_pos L b t 0), ones_at _ _ _ _ _ _ (top_pos L b t 1), s0, s1, v0, v1]
  rfl

end Cert.ReferenceIdeal.Moe

end
-- ==== Proof.Moe.Reference.lean ====
/- The reference's two results: the weighted sum of the experts, and the loss of the summed probabilities, the counts of
   the selections and the logits' squares. -/
module

public import proofs.«01_k».proof.Proof.Gen.ReferenceIdeal.Run
public import proofs.«01_k».proof.Proof.Moe.RefParts
public import proofs.«01_k».proof.Proof.Moe.Tail

@[expose] public section

set_option maxRecDepth 16384

noncomputable section

namespace Cert.ReferenceIdeal.Moe

open Cert.ReferenceIdeal Cert.ReferenceIdeal.Gen Cert.Top2 Cert.Spec
open Idealize.ShloMosaic Idealize.ShloMosaic.TcCoe
open Cert.KernelIdeal.Moe (penalty lossOf)

variable (X : FVec Ideal S2x2048x1024 .f32) (B : FVec Ideal S8 .f32) (K : FVec Ideal S8x1024 .f32)
  (W1 W2 : FVec Ideal S8x1024x1024 .f32)

/-- The hidden activations of every token and expert. -/
def hid : FVec Ideal S2x2048x8x1024 .f32 :=
  maximumf (Host.dotGeneral dot_S2x2048x1024_S8x1024x1024_S2x2048x8x1024_2_1_01_02_n_n none X W1) (broadcastInDim S2x2048x8x1024 ![] bcast_S_S2x2048x8x1024 (constant S_ .f32 0x00000000#32))

theorem hid_at (b : Fin 2) (t : Fin 2048) (e : Fin 8) (f : Fin 1024) : hid X W1 (ix4 b t e f) = Spec.hidden X W1 b t e f := by
  unfold Spec.hidden
  pointwise [hid]

/-- The experts' outputs, of hidden activations `H`. -/
def ys (H : FVec Ideal S2x2048x8x1024 .f32) : FVec Ideal S2x2048x8x1024 .f32 :=
  transpose S2x2048x8x1024 [2, 3, 0, 1] (Host.dotGeneral dot_S8x1024x1024_S2x2048x8x1024_S8x1024x2x2048_1_3_2_01_0_2 none W2 H) transposes_S8x1024x2x2048_S2x2048x8x1024_2_3_0_1

theorem ys_at (H : FVec Ideal S2x2048x8x1024 .f32) (b : Fin 2) (t : Fin 2048) (e : Fin 8) (d : Fin 1024) :
    ys W2 H (ix4 b t e d) = ∑ f : Fin 1024, W2 (ix3 e f d) * H (ix4 b t e f) := by
  pointwise [ys]

/-- The output, of the experts' outputs and the combine weights. -/
def outT (Y : FVec Ideal S2x2048x8x1024 .f32) (C : FVec Ideal S2x2048x8 .f32) : FVec Ideal S2x2048x1024 .f32 :=
  Host.dotGeneral dot_S2x2048x8x1024_S2x2048x8_S2x2048x1024_2_2_3_n_01_01 none Y C

theorem outT_at (Y : FVec Ideal S2x2048x8x1024 .f32) (C : FVec Ideal S2x2048x8 .f32) (b : Fin 2) (t : Fin 2048) (d : Fin 1024) :
    outT Y C (ix3 b t d) = ∑ e : Fin 8, Y (ix4 b t e d) * C (ix3 b t e) := by
  pointwise [outT]

/-- The reference's first result. -/
def res1 : FVec Ideal S2x2048x1024 .f32 :=
  outT (ys W2 (hid X W1)) (comb (top (lgT X B K)).2 (soft2 (top (lgT X B K)).1))

theorem row_lgT (b : Fin 2) (t : Fin 2048) : row (lgT X B K) b t = lg X B K b t := funext fun e => lgT_at X B K b t e

/-- Over finite logits it is the weighted sum of the experts. -/
theorem res1_eq (hl : ∀ b t e, ∃ r : ℝ, lg X B K b t e = r) :
    res1 X B K W1 W2 = fun y => out X B K W1 W2 (y 0) (y 1) (y 2) := by
  have key : ∀ (b : Fin 2) (t : Fin 2048) (d : Fin 1024), res1 X B K W1 W2 (ix3 b t d) = out X B K W1 W2 b t d := fun b t d => by
    unfold res1 out term
    rw [outT_at]
    refine Finset.sum_congr rfl fun e _ => ?_
    rw [ys_at, comb_top _ _ _ (by rw [row_lgT]; exact hl b t), row_lgT]
    refine congrArg (· * _) (Finset.sum_congr rfl fun f _ => ?_)
    rw [hid_at]
  funext y
  have hy : y = ix3 (y 0) (y 1) (y 2) := by
    funext a
    match a with
    | 0 => rfl
    | 1 => rfl
    | 2 => rfl
  exact (congrArg (res1 X B K W1 W2) hy).trans (key _ _ _)

/-- The reference's second result. -/
def res2 : FVec Ideal S_ .f32 :=
  addf (penalty (Host.reduceAdd (soft8 (lgT X B K)) (constant S_ .f32 0x00000000#32) reducesTo_S2x2048x8_S8_d0_1 h_S_)
      (Host.reduceAdd (ones (top (lgT X B K)).2) (constant S_ .f32 0x00000000#32) reducesTo_S2x2048x2x8_S8_d0_1_2 h_S_))
    (mulf (constant S_ .f32 0x3A83126F#32) (Host.divf (Host.reduceAdd (mulf (lgT X B K) (lgT X B K)) (constant S_ .f32 0x00000000#32) reducesTo_S2x2048x8_S_d0_1_2 h_S_) (constant S_ .f32 0x47000000#32)))

/-- The summed squares. -/
theorem squares_eq : Host.reduceAdd (mulf (lgT X B K) (lgT X B K)) (constant S_ .f32 0x00000000#32) reducesTo_S2x2048x8_S_d0_1_2 h_S_ = fun _ => sqSum X B K := by
  funext y
  unfold sqSum
  simp only [← lgT_at X B K]
  generalize lgT X B K = L
  pointwise

/-- The summed probabilities of an expert; -/
theorem probs_at (e : Fin 8) : Host.reduceAdd (soft8 (lgT X B K)) (constant S_ .f32 0x00000000#32) reducesTo_S2x2048x8_S8_d0_1 h_S_ (ix1 e) = probSum X B K e := by
  refine (Sums.fst_two _ _ _ _).trans (Finset.sum_congr rfl fun b _ => Finset.sum_congr rfl fun t _ => ?_)
  rw [soft8_at, row_lgT]

/-- how often it is selected. -/
theorem counts_at (e : Fin 8) : Host.reduceAdd (ones (top (lgT X B K)).2) (constant S_ .f32 0x00000000#32) reducesTo_S2x2048x2x8_S8_d0_1_2 h_S_ (ix1 e) = cntSum X B K e := by
  refine (Sums.fst_three _ _ _ _).trans (Finset.sum_congr rfl fun b _ => Finset.sum_congr rfl fun t _ => ?_)
  rw [Fin.sum_univ_two, ones_at _ _ _ _ _ _ (top_pos _ b t 0), ones_at _ _ _ _ _ _ (top_pos _ b t 1), row_lgT]
  rfl

theorem eq_ix1 (y : S8.Idx) : y = ix1 (y 0) := by
  funext a
  match a with
  | 0 => rfl

/-- The second result is the loss. -/
theorem res2_eq : res2 X B K = lossOf X B K := by
  unfold res2 lossOf
  rw [squares_eq]
  congr 2
  · exact funext fun y => (congrArg _ (eq_ix1 y)).trans (probs_at X B K (y 0))
  · exact funext fun y => (congrArg _ (eq_ix1 y)).trans (counts_at X B K (y 0))

end Cert.ReferenceIdeal.Moe

end
-- ==== Proof.Moe.Finite.lean ====
/- The precondition read back: where the tokens, the biases and the keys are finite every logit is a real number. -/
module

public import proofs.«01_k».proof.Pre_finite_routing_inputs
public import proofs.«01_k».proof.Proof.Moe.Spec
public import Idealize.ShloMosaic.Lib.ReduceAll
public import Idealize.ShloMosaic.Lib.Pointwise

@[expose] public section

set_option maxRecDepth 16384

noncomputable section

namespace Cert.Pre_finite_routing_inputs

open Idealize.ShloMosaic Cert.Spec

/-- The predicate's side conditions hold. -/
instance facts : Facts where
  bcast_S_S2x2048x1024 := by decide
  reducesTo_S2x2048x1024_S_d0_1_2 := by decide
  h_S_ := by decide
  bcast_S_S8 := by decide
  reducesTo_S8_S_d0 := by decide
  bcast_S_S8x1024 := by decide
  reducesTo_S8x1024_S_d0_1 := by decide

/-- A number whose magnitude compares below infinity is real. -/
theorem real_of_lt (x : EReal) (h : Ideal.cmp .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  have hlt : max x (-x) < ⊤ := by
    by_contra hn
    have : Ideal.cmp .olt (max x (-x)) ⊤ = 0#1 := by
      show BitVec.ofBool (decide _) = _
      rw [decide_eq_false hn]; rfl
    rw [this] at h
    exact absurd h (by decide)
  induction x with
  | bot => exact absurd hlt (by simp)
  | top => exact absurd hlt (by simp)
  | coe r => exact ⟨r, rfl⟩

/-- A bit of a conjunction. -/
theorem and_bits : ∀ u v : BitVec 1, IntOp.andi u v = 1#1 → u = 1#1 ∧ v = 1#1 := by decide

instance : Subsingleton S_.Idx := ⟨fun a b => funext fun i => i.elim0⟩

theorem entries (X : FVec Ideal S2x2048x1024 .f32) (B : FVec Ideal S8 .f32) (I : IVec S8 32) (K : FVec Ideal S8x1024 .f32)
    (W1 W2 : FVec Ideal S8x1024x1024 .f32) (h : fn (F := Ideal) X B I K W1 W2 = fun _ => 1#1) :
    (∀ i, ∃ r : ℝ, X i = r) ∧ (∀ i, ∃ r : ℝ, B i = r) ∧ (∀ i, ∃ r : ℝ, K i = r) := by
  have e := congrFun h (fun i => i.elim0)
  dsimp only [fn] at e
  obtain ⟨e12, e3⟩ := and_bits _ _ e
  obtain ⟨e1, e2⟩ := and_bits _ _ e12
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

/-- A sum of real numbers is real. -/
theorem sum_real {ι : Type} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨u, hu⟩ := ih
    obtain ⟨v, hv⟩ := h a
    exact ⟨v + u, by rw [Finset.sum_insert ha, hu, hv, EReal.coe_add]⟩

/-- The logits are real where the predicate holds. -/
theorem logits_real (X : FVec Ideal S2x2048x1024 .f32) (B : FVec Ideal S8 .f32) (I : IVec S8 32) (K : FVec Ideal S8x1024 .f32)
    (W1 W2 : FVec Ideal S8x1024x1024 .f32) (h : fn (F := Ideal) X B I K W1 W2 = fun _ => 1#1) (b : Fin 2) (t : Fin 2048) (e : Fin 8) :
    ∃ r : ℝ, lg X B K b t e = r := by
  obtain ⟨hX, hB, hK⟩ := entries X B I K W1 W2 h
  obtain ⟨u, hu⟩ := sum_real Finset.univ (fun d : Fin 1024 => X (ix3 b t d) * K (ix2 e d)) fun d => by
    obtain ⟨x, hx⟩ := hX (ix3 b t d)
    obtain ⟨k, hk⟩ := hK (ix2 e d)
    exact ⟨x * k, by rw [hx, hk, EReal.coe_mul]⟩
  obtain ⟨v, hv⟩ := hB (ix1 e)
  exact ⟨u + v, by unfold lg; rw [hu, hv, EReal.coe_add]⟩

end Cert.Pre_finite_routing_inputs

end
-- ==== Proof.Moe.Equation.lean ====
/- The equation: from equal arguments that meet the precondition the kernel and the reference end with equal results. -/
module

public import proofs.«01_k».proof.Defs
public import proofs.«01_k».proof.Proof.Moe.Tail
public import proofs.«01_k».proof.Proof.Moe.Reference
public import proofs.«01_k».proof.Proof.Moe.Finite

@[expose] public section

set_option maxRecDepth 16384

noncomputable section

namespace Cert.Equation

open Idealize.ShloMosaic Idealize.ShloMosaic.TcCoe Idealize.SL.Sem
open Cert.KernelIdeal.Moe (aX aB aK aW1 aW2 lossOf RealLogits)

/-- The precondition makes the logits real. -/
theorem logits (m : (ℓ : Loc KernelIdeal.nD KernelIdeal.τ KernelIdeal.sig) → Buf (Elt Ideal) ℓ) (h : Pre_KernelIdeal_finite_routing_inputs m)
    (c : Dev KernelIdeal.nD) : RealLogits m c :=
  fun b t e => Pre_finite_routing_inputs.logits_real _ _ _ _ _ _ (h c) b t e

/-- The kernel ends with the weighted sum of the experts, the loss, and its arguments unchanged. -/
theorem kernel (m : (ℓ : Loc KernelIdeal.nD KernelIdeal.τ KernelIdeal.sig) → Buf (Elt Ideal) ℓ) (g : Dev KernelIdeal.nD → PrngReg)
    (hl : ∀ c, RealLogits m c) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v22) = (fun y : KernelIdeal.S2x2048x1024.Idx => Spec.out (aX m c) (aB m c) (aK m c) (aW1 m c) (aW2 m c) (y 0) (y 1) (y 2))
      ∧ r.2.mem ((c.tc : Thread KernelIdeal.nD KernelIdeal.τ).loc KernelIdeal.main_v21) = lossOf (aX m c) (aB m c) (aK m c)) := by
  refine (θ_run _ _ _).mono (fun r h c => ?_) (Cert.KernelIdeal.Moe.run_main m g)
  exact ⟨((h.1 c).2 KernelIdeal.main_v22 (Pipeline.mem_restRefs_of KernelIdeal.main_v22 (by decide) (by decide))).trans (Cert.KernelIdeal.Moe.W_out (hl c)),
    ((h.1 c).2 KernelIdeal.main_v21 (Pipeline.mem_restRefs_of KernelIdeal.main_v21 (by decide) (by decide))).trans
      ((Cert.KernelIdeal.Moe.W_loss (hl c)).trans (Cert.KernelIdeal.Moe.lossK_eq c))⟩

/-- The reference's two terms, of its arguments. -/
theorem reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v52)
          = ReferenceIdeal.Moe.res1 (m ((c.tc : Thread ReferenceIdeal.nD ReferenceIdeal.τ).loc ReferenceIdeal.main_arg0)) (m ((c.tc : Thread ReferenceIdeal.nD ReferenceIdeal.τ).loc ReferenceIdeal.main_arg1)) (m ((c.tc : Thread ReferenceIdeal.nD ReferenceIdeal.τ).loc ReferenceIdeal.main_arg3)) (m ((c.tc : Thread ReferenceIdeal.nD ReferenceIdeal.τ).loc ReferenceIdeal.main_arg4)) (m ((c.tc : Thread ReferenceIdeal.nD ReferenceIdeal.τ).loc ReferenceIdeal.main_arg5))
      ∧ r.2.mem ((c.tc : Thread ReferenceIdeal.nD ReferenceIdeal.τ).loc ReferenceIdeal.main_v47)
          = ReferenceIdeal.Moe.res2 (m ((c.tc : Thread ReferenceIdeal.nD ReferenceIdeal.τ).loc ReferenceIdeal.main_arg0)) (m ((c.tc : Thread ReferenceIdeal.nD ReferenceIdeal.τ).loc ReferenceIdeal.main_arg1)) (m ((c.tc : Thread ReferenceIdeal.nD ReferenceIdeal.τ).loc ReferenceIdeal.main_arg3))) := by
  refine (θ_run _ _ _).mono (fun r h c => ⟨(h c).1.trans rfl, (h c).2.1.trans ?_⟩) (Cert.ReferenceIdeal.Value.run m g)
  unfold ReferenceIdeal.Value.res_main_v47
  rfl

theorem algebraic : algebraic_KernelIdeal_ReferenceIdeal_pre_finite_routing_inputs := by
  intro m g m' g' hp ha
  have hl := logits m hp
  refine ⟨fun c => (fun y : KernelIdeal.S2x2048x1024.Idx => Spec.out (aX m c) (aB m c) (aK m c) (aW1 m c) (aW2 m c) (y 0) (y 1) (y 2)),
    fun c => lossOf (aX m c) (aB m c) (aK m c), ?_, ?_⟩
  · exact (θ_run _ _ _).mono (fun r h c => ⟨(h.1 c).1, (h.1 c).2, h.2.1 c⟩) (θ_run_and (kernel m g hl) (Cert.KernelIdeal.Moe.frame m g))
  · refine (θ_run _ _ _).mono (fun r h c => ?_) (θ_run_and (reference m' g') (Cert.ReferenceIdeal.Value.run m' g'))
    obtain ⟨e0, e1, -, e3, e4, e5⟩ := ha c
    refine ⟨(h.1 c).1.trans ?_, (h.1 c).2.trans ?_, (h.2 c).2.2⟩
    · rw [e0, e1, e3, e4, e5]
      exact ReferenceIdeal.Moe.res1_eq _ _ _ _ _ (hl c)
    · rw [e0, e1, e3]
      exact ReferenceIdeal.Moe.res2_eq _ _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Moe.Frame
public import proofs.«01_k».proof.Proof.Moe.KFrame
public import proofs.«01_k».proof.Proof.Moe.RefFrame
public import proofs.«01_k».proof.Proof.Moe.Equation
public import Idealize.ShloMosaic.Adequacy
public import Idealize.ShloMosaic.Init

@[expose] public section

noncomputable section

namespace Cert.Proof

open Idealize.ShloMosaic Idealize.SL.Sem Cert.Kernel

/-- The claims of this certificate. -/
theorem claim : Cert.Claim := ⟨Cert.Kernel.Gen.facts, Cert.KernelIdeal.Gen.facts, Cert.ReferenceIdeal.Gen.facts, Cert.Pre_finite_routing_inputs.facts,
  fun m ρ _ => Cert.Kernel.Moe.frame m ρ,
  fun m ρ _ => Cert.KernelIdeal.Moe.frame m ρ,
  fun m ρ _ => Cert.KernelIdeal.Moe.frame m ρ,
  fun m ρ _ => Cert.ReferenceIdeal.Moe.frame m ρ,
  fun m ρ _ => Cert.ReferenceIdeal.Moe.frame m ρ,
  trivial,
  Cert.Equation.algebraic⟩

end Cert.Proof

end
